-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonnegative [hPre_nonnegative : Cert.Pre_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonnegative [hPre_nonnegative : Cert.Pre_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nonnegative [hKernelIdeal : Cert.KernelIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nonnegative [hReferenceIdeal : Cert.ReferenceIdeal.Facts] [hPre_nonnegative : Cert.Pre_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nonnegative [hKernelIdeal : Cert.KernelIdeal.Facts] [hReferenceIdeal : Cert.ReferenceIdeal.Facts] [hPre_nonnegative : Cert.Pre_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nonnegative : Cert.Pre_nonnegative.Facts),
    quiescent_Kernel (hKernel := hKernel)
    ∧ quiescent_KernelIdeal (hKernelIdeal := hKernelIdeal)
    ∧ quiescent_KernelIdeal_pre_nonnegative (hKernelIdeal := hKernelIdeal) (hPre_nonnegative := hPre_nonnegative)
    ∧ quiescent_ReferenceIdeal (hReferenceIdeal := hReferenceIdeal)
    ∧ quiescent_ReferenceIdeal_pre_nonnegative (hReferenceIdeal := hReferenceIdeal) (hPre_nonnegative := hPre_nonnegative)
    ∧ preserves_Kernel_KernelIdeal
    ∧ algebraic_KernelIdeal_ReferenceIdeal_pre_nonnegative (hKernelIdeal := hKernelIdeal) (hReferenceIdeal := hReferenceIdeal) (hPre_nonnegative := hPre_nonnegative)
-- ==== Pre_nonnegative.lean ====
abbrev S32x512x512 : Shape := ⟨3, ![32, 512, 512]⟩
abbrev S_ : Shape := ⟨0, ![]⟩

class Facts : Prop where
  bcast_S_S32x512x512 : S_.BroadcastsInDim S32x512x512 (![] : Fin 0 → Fin S32x512x512.rank)

variable [Facts]

def fn {F : FTy → Type} [FloatOps F] (main_arg0 : IVec S32x512x512 32) (main_arg1 : IVec S32x512x512 32) : IVec S32x512x512 1 :=
  let main_c : IVec S_ 32 := constantI S_ 32 0#32
  let main_v0 : IVec S32x512x512 32 := broadcastInDim S32x512x512 ![] bcast_S_S32x512x512 main_c
  let main_v1 : IVec S32x512x512 1 := cmpi .sge main_arg0 main_v0
  let main_c_0 : IVec S_ 32 := constantI S_ 32 0#32
  let main_v2 : IVec S32x512x512 32 := broadcastInDim S32x512x512 ![] bcast_S_S32x512x512 main_c_0
  let main_v3 : IVec S32x512x512 1 := cmpi .sge main_arg1 main_v2
  let main_v4 : IVec S32x512x512 1 := andi main_v1 main_v3
  main_v4
-- ==== Kernel.lean ====
abbrev S32x512x512 : Shape := ⟨3, ![32, 512, 512]⟩
abbrev S8192x8x128 : Shape := ⟨3, ![8192, 8, 128]⟩
abbrev S1x128 : Shape := ⟨2, ![1, 128]⟩
abbrev S512x8x128 : Shape := ⟨3, ![512, 8, 128]⟩
abbrev S2x14x8x128 : Shape := ⟨4, ![2, 14, 8, 128]⟩
abbrev S2x13x8x128 : Shape := ⟨4, ![2, 13, 8, 128]⟩
abbrev S128x8x128 : Shape := ⟨3, ![128, 8, 128]⟩
abbrev S1x8x128 : Shape := ⟨3, ![1, 8, 128]⟩
abbrev S8x128 : Shape := ⟨2, ![8, 128]⟩
abbrev S1x1x8x128 : Shape := ⟨4, ![1, 1, 8, 128]⟩
abbrev S21x8x128 : Shape := ⟨3, ![21, 8, 128]⟩
abbrev S21x8 : Shape := ⟨2, ![21, 8]⟩
abbrev S21 : Shape := ⟨1, ![21]⟩
abbrev S1x21 : Shape := ⟨2, ![1, 21]⟩
abbrev S1 : Shape := ⟨1, ![1]⟩
abbrev S1x1 : Shape := ⟨2, ![1, 1]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S32x512x512, .i32⟩
  | .hbm, ⟨1, _⟩ => ⟨S32x512x512, .i32⟩
  | .hbm, ⟨2, _⟩ => ⟨S8192x8x128, .i32⟩
  | .hbm, ⟨3, _⟩ => ⟨S8192x8x128, .i32⟩
  | .hbm, ⟨4, _⟩ => ⟨S1x128, .f32⟩
  | .hbm, ⟨5, _⟩ => ⟨S1x1, .f32⟩
  | .hbm, ⟨6, _⟩ => ⟨S_, .f32⟩
  | .local _ .vmem, ⟨0, _⟩ => ⟨S512x8x128, .i32⟩
  | .local _ .vmem, ⟨1, _⟩ => ⟨S512x8x128, .i32⟩
  | .local _ .vmem, ⟨2, _⟩ => ⟨S512x8x128, .i32⟩
  | .local _ .vmem, ⟨3, _⟩ => ⟨S512x8x128, .i32⟩
  | .local _ .vmem, ⟨4, _⟩ => ⟨S1x128, .f32⟩
  | .local _ .vmem, ⟨5, _⟩ => ⟨S2x14x8x128, .i32⟩
  | .local _ .vmem, ⟨6, _⟩ => ⟨S2x13x8x128, .i32⟩
  | _, _ => ⟨S32x512x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_1 : BitVec 32 := 0#32
  let c4_i32 : BitVec 32 := 4#32
  let v3 : BitVec 32 := Scalar.addi c0_i32_1 c4_i32
  let c1_i32 : BitVec 32 := 1#32
  ⟨c0_i32_1, v3, c1_i32⟩
def k0_off1 (k0_t1 : Fin k0_t1_loop.trips) : Fin 3 → Nat :=
  let c0_i32_1 : BitVec 32 := 0#32
  let c1_i32 : BitVec 32 := 1#32
  let arg6 : BitVec 32 := Scf.iv c0_i32_1 c1_i32 k0_t1
  let c128_i32 : BitVec 32 := 128#32
  let v7 : BitVec 32 := Scalar.muli arg6 c128_i32
  let v8 : Index := Scalar.indexCast v7
  let c0 : Index := 0#32
  let c0_4 : Index := 0#32
  ![v8.toNat, 0, 0]
def k0_cond2 (i : grid0.Coords) : BitVec 1 :=
  let arg0 : BitVec 32 := BitVec.ofNat 32 (i 0).val
  let c15_i32 : BitVec 32 := 15#32
  let v4 : BitVec 1 := Scalar.cmpi .eq arg0 c15_i32
  let v5 : BitVec 32 := Scalar.extui v4
  let c0_i32_3 : BitVec 32 := 0#32
  let v6 : BitVec 1 := Scalar.cmpi .ne v5 c0_i32_3
  v6

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S32x512x512 : Shape := ⟨3, ![32, 512, 512]⟩
abbrev S8388608 : Shape := ⟨1, ![8388608]⟩
abbrev S_ : Shape := ⟨0, ![]⟩
abbrev S21 : Shape := ⟨1, ![21]⟩
abbrev S8388608x1 : Shape := ⟨2, ![8388608, 1]⟩
abbrev S22 : Shape := ⟨1, ![22]⟩

abbrev nBuf : Space → Nat
  | .hbm => 79
  | .vmem => 0
  | .smem => 0
  | _ => 0

abbrev bufTy : (tb : Table) → Fin (tcTables nBuf tb) → BufTy
  | .hbm, ⟨0, _⟩ => ⟨S32x512x512, .i32⟩
  | .hbm, ⟨1, _⟩ => ⟨S32x512x512, .i32⟩
  | .hbm, ⟨2, _⟩ => ⟨S8388608, .i32⟩
  | .hbm, ⟨3, _⟩ => ⟨S8388608, .i32⟩
  | .hbm, ⟨4, _⟩ => ⟨S_, .i32⟩
  | .hbm, ⟨5, _⟩ => ⟨S21, .i32⟩
  | .hbm, ⟨6, _⟩ => ⟨S_, .i32⟩
  | .hbm, ⟨7, _⟩ => ⟨S_, .i32⟩
  | .hbm, ⟨8, _⟩ => ⟨S8388608, .i32⟩
  | .hbm, ⟨9, _⟩ => ⟨S8388608, .i32⟩
  | .hbm, ⟨10, _⟩ => ⟨S_, .i32⟩
  | .hbm, ⟨11, _⟩ => ⟨S8388608, .i32⟩
  | .hbm, ⟨12, _⟩ => ⟨S8388608, .i1⟩
  | .hbm, ⟨13, _⟩ => ⟨S_, .i32⟩
  | .hbm, ⟨14, _⟩ => ⟨S8388608, .i32⟩
  | .hbm, ⟨15, _⟩ => ⟨S8388608, .i32⟩
  | .hbm, ⟨16, _⟩ => ⟨S8388608, .i32⟩
  | .hbm, ⟨17, _⟩ => ⟨S8388608x1, .i32⟩
  | .hbm, ⟨18, _⟩ => ⟨S_, .i32⟩
  | .hbm, ⟨19, _⟩ => ⟨S8388608, .i32⟩
  | .hbm, ⟨20, _⟩ => ⟨S21, .i32⟩
  | .hbm, ⟨21, _⟩ => ⟨S_, .i32⟩
  | .hbm, ⟨22, _⟩ => ⟨S21, .i32⟩
  | .hbm, ⟨23, _⟩ => ⟨S_, .i32⟩
  | .hbm, ⟨24, _⟩ => ⟨S_, .i32⟩
  | .hbm, ⟨25, _⟩ => ⟨S8388608, .i32⟩
  | .hbm, ⟨26, _⟩ => ⟨S8388608, .i32⟩
  | .hbm, ⟨27, _⟩ => ⟨S_, .i32⟩
  | .hbm, ⟨28, _⟩ => ⟨S8388608, .i32⟩
  | .hbm, ⟨29, _⟩ => ⟨S8388608, .i1⟩
  | .hbm, ⟨30, _⟩ => ⟨S_, .i32⟩
  | .hbm, ⟨31, _⟩ => ⟨S8388608, .i32⟩
  | .hbm, ⟨32, _⟩ => ⟨S8388608, .i32⟩
  | .hbm, ⟨33, _⟩ => ⟨S8388608, .i32⟩
  | .hbm, ⟨34, _⟩ => ⟨S8388608x1, .i32⟩
  | .hbm, ⟨35, _⟩ => ⟨S_, .i32⟩
  | .hbm, ⟨36, _⟩ => ⟨S8388608, .i32⟩
  | .hbm, ⟨37, _⟩ => ⟨S21, .i32⟩
  | .hbm, ⟨38, _⟩ => ⟨S8388608, .i1⟩
  | .hbm, ⟨39, _⟩ => ⟨S_, .i32⟩
  | .hbm, ⟨40, _⟩ => ⟨S_, .i32⟩
  | .hbm, ⟨41, _⟩ => ⟨S8388608, .i32⟩
  | .hbm, ⟨42, _⟩ => ⟨S8388608, .i32⟩
  | .hbm, ⟨43, _⟩ => ⟨S_, .i32⟩
  | .hbm, ⟨44, _⟩ => ⟨S22, .i32⟩
  | .hbm, ⟨45, _⟩ => ⟨S_, .i32⟩
  | .hbm, ⟨46, _⟩ => ⟨S_, .i32⟩
  | .hbm, ⟨47, _⟩ => ⟨S8388608, .i32⟩
  | .hbm, ⟨48, _⟩ => ⟨S8388608, .i32⟩
  | .hbm, ⟨49, _⟩ => ⟨S_, .i32⟩
  | .hbm, ⟨50, _⟩ => ⟨S8388608, .i32⟩
  | .hbm, ⟨51, _⟩ => ⟨S8388608, .i1⟩
  | .hbm, ⟨52, _⟩ => ⟨S_, .i32⟩
  | .hbm, ⟨53, _⟩ => ⟨S8388608, .i32⟩
  | .hbm, ⟨54, _⟩ => ⟨S8388608, .i32⟩
  | .hbm, ⟨55, _⟩ => ⟨S8388608, .i32⟩
  | .hbm, ⟨56, _⟩ => ⟨S8388608x1, .i32⟩
  | .hbm, ⟨57, _⟩ => ⟨S_, .i32⟩
  | .hbm, ⟨58, _⟩ => ⟨S8388608, .i32⟩
  | .hbm, ⟨59, _⟩ => ⟨S22, .i32⟩
  | .hbm, ⟨60, _⟩ => ⟨S21, .i32⟩
  | .hbm, ⟨61, _⟩ => ⟨S21, .i32⟩
  | .hbm, ⟨62, _⟩ => ⟨S21, .i32⟩
  | .hbm, ⟨63, _⟩ => ⟨S21, .f32⟩
  | .hbm, ⟨64, _⟩ => ⟨S_, .f32⟩
  | .hbm, ⟨65, _⟩ => ⟨S21, .f32⟩
  | .hbm, ⟨66, _⟩ => ⟨S21, .f32⟩
  | .hbm, ⟨67, _⟩ => ⟨S21, .f32⟩
  | .hbm, ⟨68, _⟩ => ⟨S_, .f32⟩
  | .hbm, ⟨69, _⟩ => ⟨S21, .f32⟩
  | .hbm, ⟨70, _⟩ => ⟨S21, .f32⟩
  | .hbm, ⟨71, _⟩ => ⟨S21, .f32⟩
  | .hbm, ⟨72, _⟩ => ⟨S_, .f32⟩
  | .hbm, ⟨73, _⟩ => ⟨S21, .f32⟩
  | .hbm, ⟨74, _⟩ => ⟨S21, .f32⟩
  | .hbm, ⟨75, _⟩ => ⟨S21, .f32⟩
  | .hbm, ⟨76, _⟩ => ⟨S21, .f32⟩
  | .hbm, ⟨77, _⟩ => ⟨S_, .f32⟩
  | .hbm, ⟨78, _⟩ => ⟨S_, .f32⟩
  | _, _ => ⟨S32x512x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_c_0 : Ref sig .tc := ⟨.hbm, 6, rfl⟩
abbrev main_call0_v0 : Ref sig .tc := ⟨.hbm, 7, rfl⟩
abbrev main_call0_v1 : Ref sig .tc := ⟨.hbm, 8, rfl⟩
abbrev main_v3 : Ref sig .tc := ⟨.hbm, 9, rfl⟩
abbrev main_c_1 : Ref sig .tc := ⟨.hbm, 10, rfl⟩
abbrev main_v4 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_c_4 : Ref sig .tc := ⟨.hbm, 21, rfl⟩
abbrev main_v12 : Ref sig .tc := ⟨.hbm, 22, rfl⟩
abbrev main_c_5 : Ref sig .tc := ⟨.hbm, 23, rfl⟩
abbrev main_call1_v0 : Ref sig .tc := ⟨.hbm, 24, rfl⟩
abbrev main_call1_v1 : Ref sig .tc := ⟨.hbm, 25, rfl⟩
abbrev main_v13 : Ref sig .tc := ⟨.hbm, 26, rfl⟩
abbrev main_c_6 : Ref sig .tc := ⟨.hbm, 27, rfl⟩
abbrev main_v14 : Ref sig .tc := ⟨.hbm, 28, rfl⟩
abbrev main_v15 : Ref sig .tc := ⟨.hbm, 29, rfl⟩
abbrev main_c_7 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_8 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_9 : Ref sig .tc := ⟨.hbm, 39, rfl⟩
abbrev main_call2_v0 : Ref sig .tc := ⟨.hbm, 40, rfl⟩
abbrev main_call2_v1 : Ref sig .tc := ⟨.hbm, 41, rfl⟩
abbrev main_v23 : Ref sig .tc := ⟨.hbm, 42, rfl⟩
abbrev main_c_10 : Ref sig .tc := ⟨.hbm, 43, rfl⟩
abbrev main_v24 : Ref sig .tc := ⟨.hbm, 44, rfl⟩
abbrev main_c_11 : Ref sig .tc := ⟨.hbm, 45, rfl⟩
abbrev main_call3_v0 : Ref sig .tc := ⟨.hbm, 46, rfl⟩
abbrev main_call3_v1 : Ref sig .tc := ⟨.hbm, 47, rfl⟩
abbrev main_v25 : Ref sig .tc := ⟨.hbm, 48, rfl⟩
abbrev main_c_12 : Ref sig .tc := ⟨.hbm, 49, rfl⟩
abbrev main_v26 : Ref sig .tc := ⟨.hbm, 50, rfl⟩
abbrev main_v27 : Ref sig .tc := ⟨.hbm, 51, rfl⟩
abbrev main_c_13 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_14 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_15 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_16 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_cst_17 : Ref sig .tc := ⟨.hbm, 77, rfl⟩
abbrev main_v48 : Ref sig .tc := ⟨.hbm, 78, rfl⟩

abbrev nD : Nat := 1
abbrev τ : Topo := Topo.v7x

variable {F : FTy → Type} [FloatOps F]
-- ==== Proof.CarrySave.lean ====
/- The carry-save counter the kernel is built from, over any type of words: a perfect binary tree of words
   is compressed level by level into bit planes, and the planes are added to stored planes by a ripple
   merge. The counting theorems are about single bits; `Ops.Hom` carries them to whole words. -/
module

public import Mathlib.Data.Nat.ModEq
public import Mathlib.Tactic.Ring
public import Mathlib.Algebra.BigOperators.Fin
public import Mathlib.Tactic.Linarith

@[expose] public section

namespace Cert.CarrySave

/-- The three word operations the counter uses. -/
structure Ops (V : Type) where
  x : V → V → V
  a : V → V → V
  o : V → V → V

/-- The operations on single bits. -/
def bits : Ops Bool := ⟨xor, and, or⟩

/-- Perfect binary trees of `2 ^ n` words. -/
@[reducible] def Tree (V : Type) : ℕ → Type
  | 0 => V
  | n + 1 => Tree V n × Tree V n

/-- The tree of the words `f base, f (base + 1), …`. -/
def build {V : Type} (f : ℕ → V) : (n : ℕ) → ℕ → Tree V n
  | 0, base => f base
  | n + 1, base => (build f n base, build f n (base + 2 ^ n))

variable {V W : Type}

/-- One level over a tree with a word stored: the carries, and the word stored afterwards. -/
def lev (o : Ops V) : (n : ℕ) → Tree V (n + 1) → V → Tree V n × V
  | 0, t, s => (o.o (o.a t.1 t.2) (o.a (o.x t.1 t.2) s), o.x (o.x t.1 t.2) s)
  | n + 1, t, s => (((lev o n t.1 s).1, (lev o n t.2 (lev o n t.1 s).2).1), (lev o n t.2 (lev o n t.1 s).2).2)

/-- One level over a tree with nothing stored yet. -/
def lev0 (o : Ops V) : (n : ℕ) → Tree V (n + 1) → Tree V n × V
  | 0, t => (o.a t.1 t.2, o.x t.1 t.2)
  | n + 1, t => (((lev0 o n t.1).1, (lev o n t.2 (lev0 o n t.1).2).1), (lev o n t.2 (lev0 o n t.1).2).2)

/-- The bit planes a tree of `2 ^ n` words is compressed into, lowest first. -/
def planes (o : Ops V) : (n : ℕ) → Tree V n → List V
  | 0, t => [t]
  | n + 1, t => (lev0 o n t).2 :: planes o n (lev0 o n t).1

/-- Stored planes plus new planes plus a carry, the carry rippling up. -/
def ripple (o : Ops V) : V → List V → List V → List V
  | _, _, [] => []
  | c, [], p :: ps => o.x p c :: ripple o (o.a p c) [] ps
  | c, w :: ws, p :: ps => o.x (o.x w c) p :: ripple o (o.o (o.a w c) (o.a (o.x w c) p)) ws ps

/-- Stored planes plus new planes. -/
def merge (o : Ops V) : List V → List V → List V
  | w :: ws, p :: ps => o.x p w :: ripple o (o.a p w) ws ps
  | _, ps => ps

/-! ## Maps that respect the operations -/

/-- `φ` respects the operations. -/
structure Ops.Hom (o : Ops V) (q : Ops W) (φ : V → W) : Prop where
  x : ∀ u v, φ (o.x u v) = q.x (φ u) (φ v)
  a : ∀ u v, φ (o.a u v) = q.a (φ u) (φ v)
  o : ∀ u v, φ (o.o u v) = q.o (φ u) (φ v)

/-- A map applied at every word of a tree. -/
def tmap (φ : V → W) : (n : ℕ) → Tree V n → Tree W n
  | 0, t => φ t
  | n + 1, t => (tmap φ n t.1, tmap φ n t.2)

theorem tmap_build (φ : V → W) (f : ℕ → V) (n base : ℕ) :
    tmap φ n (build f n base) = build (fun i => φ (f i)) n base := by
  induction n generalizing base with
  | zero => rfl
  | succ n ih => simp only [build, tmap, ih]

variable {o : Ops V} {q : Ops W} {φ : V → W}

theorem lev_map (h : o.Hom q φ) (n : ℕ) (t : Tree V (n + 1)) (s : V) :
    lev q n (tmap φ (n + 1) t) (φ s) = (tmap φ n (lev o n t s).1, φ (lev o n t s).2) := by
  induction n generalizing s with
  | zero => simp only [lev, tmap, h.x, h.a, h.o]
  | succ n ih =>
    have e1 := ih t.1 s
    have e2 := ih t.2 (lev o n t.1 s).2
    simp only [lev, tmap] at e1 e2 ⊢
    rw [e1, e2]

theorem lev0_map (h : o.Hom q φ) (n : ℕ) (t : Tree V (n + 1)) :
    lev0 q n (tmap φ (n + 1) t) = (tmap φ n (lev0 o n t).1, φ (lev0 o n t).2) := by
  induction n with
  | zero => simp only [lev0, tmap, h.x, h.a]
  | succ n ih =>
    have e1 := ih t.1
    have e2 := lev_map h n t.2 (lev0 o n t.1).2
    simp only [lev0, tmap] at e1 e2 ⊢
    rw [e1, e2]

theorem planes_map (h : o.Hom q φ) (n : ℕ) (t : Tree V n) :
    (planes o n t).map φ = planes q n (tmap φ n t) := by
  induction n with
  | zero => rfl
  | succ n ih =>
    simp only [planes, List.map_cons, ih]
    have e := lev0_map h n t
    rw [e]

theorem ripple_map (h : o.Hom q φ) (ps : List V) (ws : List V) (c : V) :
    (ripple o c ws ps).map φ = ripple q (φ c) (ws.map φ) (ps.map φ) := by
  induction ps generalizing ws c with
  | nil => cases ws <;> rfl
  | cons p ps ih =>
    cases ws with
    | nil => simp only [ripple, List.map_cons, List.map_nil, ih, h.x, h.a]
    | cons w ws => simp only [ripple, List.map_cons, ih, h.x, h.a, h.o]

theorem merge_map (h : o.Hom q φ) (ws ps : List V) :
    (merge o ws ps).map φ = merge q (ws.map φ) (ps.map φ) := by
  cases ws with
  | nil => cases ps <;> rfl
  | cons w ws =>
    cases ps with
    | nil => rfl
    | cons p ps => simp only [merge, List.map_cons, ripple_map h, h.x, h.a]

theorem ripple_length (o : Ops V) (ps ws : List V) (c : V) : (ripple o c ws ps).length = ps.length := by
  induction ps generalizing ws c with
  | nil => cases ws <;> rfl
  | cons p ps ih => cases ws <;> simp only [ripple, List.length_cons, ih]

theorem merge_length (o : Ops V) (ws ps : List V) : (merge o ws ps).length = ps.length := by
  cases ws with
  | nil => rfl
  | cons w ws =>
    cases ps with
    | nil => rfl
    | cons p ps => simp only [merge, List.length_cons, ripple_length]

theorem planes_length (o : Ops V) (n : ℕ) (t : Tree V n) : (planes o n t).length = n + 1 := by
  induction n with
  | zero => rfl
  | succ n ih => simp only [planes, List.length_cons, ih]

/-! ## What the bits count -/

/-- The number the bit planes spell, lowest plane first. -/
def value : List Bool → ℕ
  | [] => 0
  | b :: bs => b.toNat + 2 * value bs

/-- How many bits of a tree are set. -/
def ones : (n : ℕ) → Tree Bool n → ℕ
  | 0, t => Bool.toNat t
  | n + 1, t => ones n t.1 + ones n t.2

theorem ones_build (f : ℕ → Bool) (n base : ℕ) :
    ones n (build f n base) = ∑ i ∈ Finset.range (2 ^ n), (f (base + i)).toNat := by
  induction n generalizing base with
  | zero => simp [ones, build]
  | succ n ih =>
    simp only [build, ones, ih]
    rw [pow_succ, mul_two, Finset.sum_range_add]
    simp only [Nat.add_assoc]

theorem full_adder (u v s : Bool) :
    2 * (bits.o (bits.a u v) (bits.a (bits.x u v) s)).toNat + (bits.x (bits.x u v) s).toNat
      = u.toNat + v.toNat + s.toNat := by
  cases u <;> cases v <;> cases s <;> rfl

theorem half_adder (u v : Bool) : 2 * (bits.a u v).toNat + (bits.x u v).toNat = u.toNat + v.toNat := by
  cases u <;> cases v <;> rfl

theorem lev_count (n : ℕ) (t : Tree Bool (n + 1)) (s : Bool) :
    2 * ones n (lev bits n t s).1 + (lev bits n t s).2.toNat = ones (n + 1) t + s.toNat := by
  induction n generalizing s with
  | zero => exact full_adder _ _ _
  | succ n ih =>
    have e1 := ih t.1 s
    have e2 := ih t.2 (lev bits n t.1 s).2
    simp only [lev, ones] at e1 e2 ⊢
    omega

theorem lev0_count (n : ℕ) (t : Tree Bool (n + 1)) :
    2 * ones n (lev0 bits n t).1 + (lev0 bits n t).2.toNat = ones (n + 1) t := by
  induction n with
  | zero => exact half_adder _ _
  | succ n ih =>
    have e1 := ih t.1
    have e2 := lev_count n t.2 (lev0 bits n t.1).2
    simp only [lev0, ones] at e1 e2 ⊢
    omega

/-- The planes of a tree spell how many of its bits are set. -/
theorem value_planes (n : ℕ) (t : Tree Bool n) : value (planes bits n t) = ones n t := by
  induction n with
  | zero => simp [planes, value, ones]
  | succ n ih =>
    simp only [planes, value, ih]
    have e := lev0_count n t
    omega

theorem value_lt (l : List Bool) : value l < 2 ^ l.length := by
  induction l with
  | nil => simp [value]
  | cons b bs ih =>
    have hb := Bool.toNat_le b
    simp only [value, List.length_cons, pow_succ]
    omega

theorem value_ripple (ps : List Bool) (ws : List Bool) (c : Bool) (hw : ws.length ≤ ps.length) :
    value (ripple bits c ws ps) ≡ c.toNat + value ws + value ps [MOD 2 ^ ps.length] := by
  induction ps generalizing ws c with
  | nil => simp [Nat.modEq_one]
  | cons p ps ih =>
    cases ws with
    | nil =>
      have e := ((ih [] (bits.a p c) (by simp)).mul_left' 2).add_left (bits.x p c).toNat
      have e1 := half_adder p c
      simp only [ripple, value, List.length_cons, pow_succ] at e ⊢
      rw [mul_comm (2 ^ ps.length) 2]
      exact e.trans (congrArg (· % (2 * 2 ^ ps.length)) (by omega))
    | cons w ws =>
      have e := ((ih ws (bits.o (bits.a w c) (bits.a (bits.x w c) p))
        (by simpa using hw)).mul_left' 2).add_left (bits.x (bits.x w c) p).toNat
      have e1 := full_adder w c p
      simp only [ripple, value, List.length_cons, pow_succ] at e ⊢
      rw [mul_comm (2 ^ ps.length) 2]
      exact e.trans (congrArg (· % (2 * 2 ^ ps.length)) (by omega))

/-- Merging adds, as long as the sum fits in the stored planes. -/
theorem value_merge (ws ps : List Bool) (hw : ws.length ≤ ps.length) (hlt : value ws + value ps < 2 ^ ps.length) :
    value (merge bits ws ps) = value ws + value ps := by
  cases ws with
  | nil => cases ps <;> simp [merge, value]
  | cons w ws =>
    cases ps with
    | nil => simp at hw
    | cons p ps =>
      have e := ((value_ripple ps ws (bits.a p w) (by simpa using hw)).mul_left' 2).add_left (bits.x p w).toNat
      have e1 := half_adder p w
      have l1 := value_lt (merge bits (w :: ws) (p :: ps))
      rw [merge_length] at l1
      refine Nat.ModEq.eq_of_lt_of_lt (m := 2 ^ (p :: ps).length) ?_ l1 hlt
      simp only [merge, value, List.length_cons, pow_succ] at e ⊢
      rw [mul_comm (2 ^ ps.length) 2]
      exact e.trans (congrArg (· % (2 * 2 ^ ps.length)) (by omega))

end Cert.CarrySave

end
-- ==== Proof.Trip.lean ====
/- What one trip of the kernel's loop stores: the carry-save counter of Proof/CarrySave.lean over one-hot
   vectors, merged into the planes the scratch buffers hold. The printed trip and the counter's words are the
   same terms once both are unfolded. -/
module

public import proofs.«01_k».proof.Proof.Gen.KernelIdeal.Loops
public import proofs.«01_k».proof.Proof.CarrySave

@[expose] public section

set_option maxRecDepth 65536

noncomputable section

namespace Cert.Trip

open Cert.KernelIdeal Cert.KernelIdeal.Gen Cert.CarrySave
open Idealize.ShloMosaic Idealize.ShloMosaic.TcCoe Idealize.ShloMosaic.Tactic

/-- The kernel's words: one 32-bit word per lane. -/
abbrev Word : Type := IVec S8x128 32

/-- The word operations, lane by lane. -/
def words : Ops Word := ⟨xori, andi, ori⟩

/-- `f 0, f 1, …` as a list. -/
def table {V : Type} : (n : ℕ) → (Fin n → V) → List V
  | 0, _ => []
  | n + 1, f => f 0 :: table n (fun i => f i.succ)

theorem slice_row (b : ℕ) (h : b < 128) : S128x8x128.Slices ![b, 0, 0] S1x8x128 := by
  refine ⟨rfl, fun a => ?_⟩
  match a with
  | ⟨0, _⟩ => exact h
  | ⟨1, _⟩ => exact Nat.le_refl 8
  | ⟨2, _⟩ => exact Nat.le_refl 128

/-- The one-hot word of row `b` of a chunk: bit `x` of a lane is set where the lane's class is `x`. -/
def oneHot (v : IVec S128x8x128 32) (b : ℕ) (h : b < 128) : Word :=
  shli (broadcast S8x128 1#32)
    (shapeCast S8x128 (extractStridedSlice S1x8x128 ![b, 0, 0] v (slice_row b h)) shapeCasts_S1x8x128_S8x128)

theorem half_lt {b n N : ℕ} (h : b + 2 ^ (n + 1) ≤ N) : b + 2 ^ n ≤ N := by
  have := Nat.pow_le_pow_right (n := 2) (by omega) (Nat.le_succ n)
  omega

theorem half_le {b n N : ℕ} (h : b + 2 ^ (n + 1) ≤ N) : b + 2 ^ n + 2 ^ n ≤ N := by
  rw [pow_succ] at h
  omega

/-- The tree of `f` at the rows from `b` on. -/
def rows {V : Type} (f : (b : ℕ) → b < 128 → V) : (n b : ℕ) → b + 2 ^ n ≤ 128 → Tree V n
  | 0, b, h => f b h
  | n + 1, b, h => (rows f n b (half_lt h), rows f n (b + 2 ^ n) (half_le h))

/-- The tree of `f` and `g` at the rows from `b` on, alternating. -/
def rows2 {V : Type} (f g : (b : ℕ) → b < 128 → V) : (n b : ℕ) → b + 2 ^ n ≤ 128 → Tree V (n + 1)
  | 0, b, h => (f b h, g b h)
  | n + 1, b, h => (rows2 f g n b (half_lt h), rows2 f g n (b + 2 ^ n) (half_le h))

/-- The planes of the two histograms' sum over the 64 rows from `b` on, -/
def totalPlanes (p g : IVec S128x8x128 32) (b : ℕ) (h : b + 2 ^ 6 ≤ 128) : List Word :=
  planes words 7 (rows2 (oneHot p) (oneHot g) 6 b h)

/-- and those of the matches. -/
def matchPlanes (p g : IVec S128x8x128 32) (b : ℕ) (h : b + 2 ^ 6 ≤ 128) : List Word :=
  planes words 6 (rows (fun i hi => andi (oneHot p i hi) (oneHot g i hi)) 6 b h)

variable {F : FTy → Type} [FloatOps F]

theorem inb4 (s : Fin 2) (k : ℕ) (hk : k < 14) : ∀ a, (![s.val, k, 0, 0] : Fin 4 → ℕ) a + S1x1x8x128.size a ≤ S2x14x8x128.size a := by
  intro a
  have hs := s.isLt
  match a with
  | ⟨0, _⟩ => show s.val + 1 ≤ 2; omega
  | ⟨1, _⟩ => show k + 1 ≤ 14; omega
  | ⟨2, _⟩ => exact Nat.le_refl 8
  | ⟨3, _⟩ => exact Nat.le_refl 128

theorem inb5 (s : Fin 2) (k : ℕ) (hk : k < 13) : ∀ a, (![s.val, k, 0, 0] : Fin 4 → ℕ) a + S1x1x8x128.size a ≤ S2x13x8x128.size a := by
  intro a
  have hs := s.isLt
  match a with
  | ⟨0, _⟩ => show s.val + 1 ≤ 2; omega
  | ⟨1, _⟩ => show k + 1 ≤ 13; omega
  | ⟨2, _⟩ => exact Nat.le_refl 8
  | ⟨3, _⟩ => exact Nat.le_refl 128

/-- Plane `k` of set `s`: the rectangle of the totals' buffer, -/
def rect4 (s : Fin 2) (k : ℕ) (hk : k < 14) : Rect S2x14x8x128 := Rect.unit (s := S2x14x8x128) ![s.val, k, 0, 0] S1x1x8x128.size (inb4 s k hk)
/-- and of the matches' buffer. -/
def rect5 (s : Fin 2) (k : ℕ) (hk : k < 13) : Rect S2x13x8x128 := Rect.unit (s := S2x13x8x128) ![s.val, k, 0, 0] S1x1x8x128.size (inb5 s k hk)

/-- The planes of set `s` the totals' buffer holds, -/
def held4 (arg4 : Memref sig .tc .vmem S2x14x8x128 .i32) (f : BufTy.Contents (Elt F) arg4.view.ty) (s : Fin 2) : List Word :=
  table 14 fun k => shapeCast S8x128 (View.readAt (Elt F) arg4.view (Rect.unit (s := S2x14x8x128) ![s.val, k.val, 0, 0] S1x1x8x128.size (inb4 s k.val k.isLt)).toLoadRect f) shapeCasts_S1x1x8x128_S8x128
/-- and the matches' buffer. -/
def held5 (arg5 : Memref sig .tc .vmem S2x13x8x128 .i32) (f : BufTy.Contents (Elt F) arg5.view.ty) (s : Fin 2) : List Word :=
  table 13 fun k => shapeCast S8x128 (View.readAt (Elt F) arg5.view (Rect.unit (s := S2x13x8x128) ![s.val, k.val, 0, 0] S1x1x8x128.size (inb5 s k.val k.isLt)).toLoadRect f) shapeCasts_S1x1x8x128_S8x128

/-- The pieces that store the words `l` as the planes from `k` on of set `s`, last first: into the totals' buffer, -/
def stores4 (s : Fin 2) : (n k : ℕ) → k + n ≤ 14 → List Word → List (View.Piece (Elt F) S2x14x8x128 .i32) → List (View.Piece (Elt F) S2x14x8x128 .i32)
  | n + 1, k, h, w :: ws, acc => stores4 s n (k + 1) (by omega) ws
      (⟨Rect.unit (s := S2x14x8x128) ![s.val, k, 0, 0] S1x1x8x128.size (inb4 s k (by omega)), shapeCast S1x1x8x128 w shapeCasts_S8x128_S1x1x8x128⟩ :: acc)
  | _, _, _, _, acc => acc
/-- and into the matches' buffer. -/
def stores5 (s : Fin 2) : (n k : ℕ) → k + n ≤ 13 → List Word → List (View.Piece (Elt F) S2x13x8x128 .i32) → List (View.Piece (Elt F) S2x13x8x128 .i32)
  | n + 1, k, h, w :: ws, acc => stores5 s n (k + 1) (by omega) ws
      (⟨Rect.unit (s := S2x13x8x128) ![s.val, k, 0, 0] S1x1x8x128.size (inb5 s k (by omega)), shapeCast S1x1x8x128 w shapeCasts_S8x128_S1x1x8x128⟩ :: acc)
  | _, _, _, _, acc => acc

/-- The chunk of 128 rows of an input block that trip `k` reads. -/
def chunk (arg : Memref sig .tc .vmem S512x8x128 .i32) (X : BufTy.Contents (Elt F) arg.view.ty) (k : Fin k0_t1_loop.trips) : IVec S128x8x128 32 :=
  shapeCast S128x8x128 (View.readAt (Elt F) arg.view (Rect.unit (s := S512x8x128) (k0_off1 k) S128x8x128.size (k0_off1_inb k)).toLoadRect X) shapeCasts_S128x8x128_S128x8x128

variable (𝒱 : Variants) (c : Dev nD) (bd : Option 𝒱.V) (i : grid0.Coords) (arg1 : Memref sig .tc .vmem S512x8x128 .i32) (harg1 : arg1.IsWhole) (arg2 : Memref sig .tc .vmem S512x8x128 .i32) (harg2 : arg2.IsWhole) (arg3 : Memref sig .tc .vmem S1x128 .f32) (harg3 : arg3.IsWhole) (arg4 : Memref sig .tc .vmem S2x14x8x128 .i32) (harg4 : arg4.IsWhole) (arg5 : Memref sig .tc .vmem S2x13x8x128 .i32) (harg5 : arg5.IsWhole)
  (X1 : BufTy.Contents (Elt F) arg1.view.ty) (X2 : BufTy.Contents (Elt F) arg2.view.ty) (k : Fin k0_t1_loop.trips)

/-- The planes of set `s`'s total after the trip, -/
def newTotal (f4 : BufTy.Contents (Elt F) arg4.view.ty) (s : Fin 2) (b : ℕ) (h : b + 2 ^ 6 ≤ 128) : List Word :=
  merge words (totalPlanes (chunk arg1 X1 k) (chunk arg2 X2 k) b h) (held4 arg4 f4 s)
/-- and of its matches. -/
def newMatch (f5 : BufTy.Contents (Elt F) arg5.view.ty) (s : Fin 2) (b : ℕ) (h : b + 2 ^ 6 ≤ 128) : List Word :=
  merge words (matchPlanes (chunk arg1 X1 k) (chunk arg2 X2 k) b h) (held5 arg5 f5 s)

/-- The trip's stores into the totals' buffer. -/
theorem trip_total (f4 : BufTy.Contents (Elt F) arg4.view.ty) (f5 : BufTy.Contents (Elt F) arg5.view.ty) :
    (tripL_k0_t1 (F := F) 𝒱 c bd i arg1 harg1 arg2 harg2 arg3 harg3 arg4 harg4 arg5 harg5 X1 X2 k f4 f5).1
      = stores4 1 14 0 (by decide) (newTotal arg1 arg2 arg4 X1 X2 k f4 1 64 (by decide))
          (stores4 0 14 0 (by decide) (newTotal arg1 arg2 arg4 X1 X2 k f4 0 0 (by decide)) []) := by
  sl_kernel_rfl

/-- The trip's stores into the matches' buffer. -/
theorem trip_match (f4 : BufTy.Contents (Elt F) arg4.view.ty) (f5 : BufTy.Contents (Elt F) arg5.view.ty) :
    (tripL_k0_t1 (F := F) 𝒱 c bd i arg1 harg1 arg2 harg2 arg3 harg3 arg4 harg4 arg5 harg5 X1 X2 k f4 f5).2
      = stores5 1 13 0 (by decide) (newMatch arg1 arg2 arg5 X1 X2 k f5 1 64 (by decide))
          (stores5 0 13 0 (by decide) (newMatch arg1 arg2 arg5 X1 X2 k f5 0 0 (by decide)) []) := by
  sl_kernel_rfl

end Cert.Trip

end
-- ==== Proof.Planes.lean ====
/- The bit planes read as counts: per lane and class, the planes a buffer holds are a number, and one trip of the
   kernel's loop adds to it the number of that class among the rows of its chunk. -/
module

public import proofs.«01_k».proof.Proof.Trip
public import Idealize.ShloMosaic.Lib.Writes
public import Idealize.ShloMosaic.Lib.ValueIdxCore
public import Idealize.ShloMosaic.Lib.Pipeline.Value

@[expose] public section

noncomputable section

namespace Cert.Planes

open Cert.KernelIdeal Cert.KernelIdeal.Gen Cert.CarrySave Cert.Trip
open Idealize.ShloMosaic Idealize.ShloMosaic.TcCoe Idealize.ShloMosaic.ValueIdx
open scoped BigOperators

/-- Bit `c` of lane `j`. -/
def lane (j : S8x128.Idx) (c : ℕ) (w : Word) : Bool := (w j).getLsbD c

theorem lane_hom (j : S8x128.Idx) (c : ℕ) : words.Hom bits (lane j c) where
  x u v := BitVec.getLsbD_xor
  a u v := BitVec.getLsbD_and
  o u v := BitVec.getLsbD_or

/-- One where the class is `c`. -/
def hit (x : BitVec 32) (c : ℕ) : ℕ := if x = BitVec.ofNat 32 c then 1 else 0

theorem hit_le (x : BitVec 32) (c : ℕ) : hit x c ≤ 1 := by unfold hit; split <;> omega

theorem shl_bit (y : BitVec 32) (c : ℕ) (hc : c < 32) :
    ((IntOp.shli .vector 1#32 y).getLsbD c).toNat = hit y c := by
  have e : y = BitVec.ofNat 32 c ↔ y.toNat = c := by
    constructor
    · intro h; rw [h, BitVec.toNat_ofNat]; omega
    · intro h; apply BitVec.eq_of_toNat_eq; rw [BitVec.toNat_ofNat, h]; omega
  unfold hit IntOp.shli
  simp only [e]
  split
  · next h =>
    rw [BitVec.shiftLeft_eq', BitVec.getLsbD_shiftLeft]
    by_cases h1 : y.toNat = c
    · simp [h1, hc]
    · rw [if_neg h1]
      by_cases h2 : c < y.toNat
      · simp [h2]
      · have h3 : c - y.toNat ≠ 0 := by omega
        simp [h3, BitVec.getLsbD_one]
  · next h =>
    rw [if_neg (by omega)]
    simp [IntOp.cornerWord]

theorem shapeCast_row (v : S1x8x128.Idx → BitVec 32) (j : S8x128.Idx) :
    shapeCast S8x128 v shapeCasts_S1x8x128_S8x128 j = v (ix3 0 (j 0) (j 1)) := by
  refine shapeCast_apply v _ j (ix3 0 (j 0) (j 1)) ?_
  rw [Shape.rowMajor_val_three, Shape.rowMajor_val_two]
  show (0 * 8 + (j 0).val) * 128 + (j 1).val = (j 0).val * 128 + (j 1).val
  omega

theorem oneHot_apply (v : IVec S128x8x128 32) (b : ℕ) (h : b < 128) (j : S8x128.Idx) :
    oneHot v b h j = IntOp.shli .vector 1#32 (v (ix3 ⟨b, h⟩ (j 0) (j 1))) := by
  show IntOp.shli .vector 1#32 (shapeCast S8x128 _ shapeCasts_S1x8x128_S8x128 j) = _
  rw [shapeCast_row]
  refine congrArg _ (extractStridedSlice_apply _ _ _ _ (ix3 ⟨b, h⟩ (j 0) (j 1)) fun a => ?_)
  match a with
  | ⟨0, _⟩ => rfl
  | ⟨1, _⟩ => exact (Nat.zero_add _).symm
  | ⟨2, _⟩ => exact (Nat.zero_add _).symm

theorem lane_oneHot (v : IVec S128x8x128 32) (b : ℕ) (h : b < 128) (j : S8x128.Idx) (c : ℕ) (hc : c < 32) :
    (lane j c (oneHot v b h)).toNat = hit (v (ix3 ⟨b, h⟩ (j 0) (j 1))) c := by
  unfold lane
  rw [oneHot_apply]
  exact shl_bit _ c hc

/-- One where both classes are `c`. -/
def both (x y : BitVec 32) (c : ℕ) : ℕ := hit x c * hit y c

theorem lane_both (p g : IVec S128x8x128 32) (b : ℕ) (h : b < 128) (j : S8x128.Idx) (c : ℕ) (hc : c < 32) :
    (lane j c (andi (oneHot p b h) (oneHot g b h))).toNat
      = both (p (ix3 ⟨b, h⟩ (j 0) (j 1))) (g (ix3 ⟨b, h⟩ (j 0) (j 1))) c := by
  unfold both
  rw [← lane_oneHot p b h j c hc, ← lane_oneHot g b h j c hc]
  show (lane j c (words.a (oneHot p b h) (oneHot g b h))).toNat = _
  rw [(lane_hom j c).a]
  generalize lane j c (oneHot p b h) = x
  generalize lane j c (oneHot g b h) = y
  cases x <;> cases y <;> rfl

/-! ## Trees of rows -/

theorem ones_rows {V : Type} (φ : V → Bool) (f : (b : ℕ) → b < 128 → V) (n b : ℕ) (h : b + 2 ^ n ≤ 128) (q : ℕ → ℕ)
    (hq : ∀ i hi, (φ (f i hi)).toNat = q i) :
    ones n (tmap φ n (rows f n b h)) = ∑ i ∈ Finset.range (2 ^ n), q (b + i) := by
  induction n generalizing b with
  | zero => simp only [rows, tmap, ones, hq, pow_zero, Finset.sum_range_one, Nat.add_zero]
  | succ n ih =>
    simp only [rows, tmap, ones, ih]
    rw [pow_succ, Nat.mul_two, Finset.sum_range_add]
    simp only [Nat.add_assoc]

theorem ones_rows2 {V : Type} (φ : V → Bool) (f g : (b : ℕ) → b < 128 → V) (n b : ℕ) (h : b + 2 ^ n ≤ 128) (q r : ℕ → ℕ)
    (hq : ∀ i hi, (φ (f i hi)).toNat = q i) (hr : ∀ i hi, (φ (g i hi)).toNat = r i) :
    ones (n + 1) (tmap φ (n + 1) (rows2 f g n b h)) = ∑ i ∈ Finset.range (2 ^ n), (q (b + i) + r (b + i)) := by
  induction n generalizing b with
  | zero => simp only [rows2, tmap, ones, hq, hr, pow_zero, Finset.sum_range_one, Nat.add_zero]
  | succ n ih =>
    have e1 := ih b (half_lt h)
    have e2 := ih (b + 2 ^ n) (half_le h)
    simp only [rows2, tmap, ones] at e1 e2 ⊢
    rw [e1, e2, pow_succ, Nat.mul_two, Finset.sum_range_add]
    simp only [Nat.add_assoc]

/-! ## Planes of a buffer -/

theorem table_length {V : Type} (n : ℕ) (f : Fin n → V) : (table n f).length = n := by
  induction n with
  | zero => rfl
  | succ n ih => simp only [table, List.length_cons, ih]

theorem table_getD {V : Type} (d : V) (n : ℕ) (l : List V) (h : l.length = n) : (table n fun k => l.getD k.val d) = l := by
  induction n generalizing l with
  | zero => exact (List.eq_nil_of_length_eq_zero h).symm
  | succ n ih =>
    cases l with
    | nil => cases h
    | cons x l =>
      have e := ih l (Nat.succ.inj h)
      simp only [table, Fin.val_zero, Fin.val_succ, List.getD_cons_zero, List.getD_cons_succ, e]

theorem table_congr {V : Type} (n : ℕ) (f g : Fin n → V) (h : ∀ k, f k = g k) : table n f = table n g := by
  rw [funext h]

/-- The planes of set `s` of the totals' contents, -/
def pl4 (A : S2x14x8x128.Idx → BitVec 32) (s : Fin 2) : List Word := table 14 fun k j => A (ix4 s k (j 0) (j 1))
/-- and of the matches' contents. -/
def pl5 (A : S2x13x8x128.Idx → BitVec 32) (s : Fin 2) : List Word := table 13 fun k j => A (ix4 s k (j 0) (j 1))

/-- The number the totals' planes hold for set `s`, lane `j`, class `c`, -/
def cnt4 (A : S2x14x8x128.Idx → BitVec 32) (s : Fin 2) (j : S8x128.Idx) (c : ℕ) : ℕ := value ((pl4 A s).map (lane j c))
/-- and the matches' planes. -/
def cnt5 (A : S2x13x8x128.Idx → BitVec 32) (s : Fin 2) (j : S8x128.Idx) (c : ℕ) : ℕ := value ((pl5 A s).map (lane j c))

theorem shapeCast_plane (v : S1x1x8x128.Idx → BitVec 32) (j : S8x128.Idx) :
    shapeCast S8x128 v shapeCasts_S1x1x8x128_S8x128 j = v (ix4 0 0 (j 0) (j 1)) := by
  refine shapeCast_apply v _ j (ix4 0 0 (j 0) (j 1)) ?_
  rw [Shape.rowMajor_val_four, Shape.rowMajor_val_two]
  show ((0 * 1 + 0) * 8 + (j 0).val) * 128 + (j 1).val = (j 0).val * 128 + (j 1).val
  omega

theorem shapeCast_unplane (w : S8x128.Idx → BitVec 32) (x : S1x1x8x128.Idx) :
    shapeCast S1x1x8x128 w shapeCasts_S8x128_S1x1x8x128 x = w (ix2 (x 2) (x 3)) := by
  refine shapeCast_apply w _ x (ix2 (x 2) (x 3)) ?_
  rw [Shape.rowMajor_val_four, Shape.rowMajor_val_two]
  have h0 : (x 0).val < 1 := (x 0).isLt
  have h1 : (x 1).val < 1 := (x 1).isLt
  show (x 2).val * 128 + (x 3).val = (((x 0).val * 1 + (x 1).val) * 8 + (x 2).val) * 128 + (x 3).val
  omega

variable {F : FTy → Type} [FloatOps F]

theorem held4_eq (arg4 : Memref sig .tc .vmem S2x14x8x128 .i32) (f : BufTy.Contents (Elt F) arg4.view.ty) (s : Fin 2) :
    held4 arg4 f s = pl4 (arg4.view.read (Elt F) f) s := by
  refine table_congr _ _ _ fun k => funext fun j => ?_
  rw [shapeCast_plane, View.readAt_apply]
  refine congrArg (arg4.view.read (Elt F) f) (funext fun a => Fin.ext ?_)
  match a with
  | ⟨0, _⟩ => exact rfl
  | ⟨1, _⟩ => exact rfl
  | ⟨2, _⟩ => show 0 + 1 * (j 0).val = (j 0).val; omega
  | ⟨3, _⟩ => show 0 + 1 * (j 1).val = (j 1).val; omega

theorem held5_eq (arg5 : Memref sig .tc .vmem S2x13x8x128 .i32) (f : BufTy.Contents (Elt F) arg5.view.ty) (s : Fin 2) :
    held5 arg5 f s = pl5 (arg5.view.read (Elt F) f) s := by
  refine table_congr _ _ _ fun k => funext fun j => ?_
  rw [shapeCast_plane, View.readAt_apply]
  refine congrArg (arg5.view.read (Elt F) f) (funext fun a => Fin.ext ?_)
  match a with
  | ⟨0, _⟩ => exact rfl
  | ⟨1, _⟩ => exact rfl
  | ⟨2, _⟩ => show 0 + 1 * (j 0).val = (j 0).val; omega
  | ⟨3, _⟩ => show 0 + 1 * (j 1).val = (j 1).val; omega

/-! ## What the stores leave -/

/-- The piece that stores the word `w` as plane `i` of set `s`. -/
def piece4 (s : Fin 2) (w : Word) (i : ℕ) (hi : i < 14) : View.Piece (Elt F) S2x14x8x128 .i32 :=
  ⟨Rect.unit (s := S2x14x8x128) ![s.val, i, 0, 0] S1x1x8x128.size (inb4 s i hi), shapeCast S1x1x8x128 w shapeCasts_S8x128_S1x1x8x128⟩

theorem piece4_congr (s : Fin 2) (w : Word) (i i' : ℕ) (hi : i < 14) (hi' : i' < 14) (e : i = i') :
    piece4 (F := F) s w i hi = piece4 s w i' hi' := by
  subst e; rfl

theorem mem_stores4 (s : Fin 2) (n k : ℕ) (h : k + n ≤ 14) (ws : List Word) (hl : ws.length = n)
    (acc : List (View.Piece (Elt F) S2x14x8x128 .i32)) (p : View.Piece (Elt F) S2x14x8x128 .i32) :
    p ∈ stores4 s n k h ws acc ↔ p ∈ acc ∨ ∃ (i : ℕ) (hi : i < n),
      p = piece4 s (ws.getD i default) (k + i) (by omega) := by
  induction n generalizing k ws acc with
  | zero =>
    have : ws = [] := List.eq_nil_of_length_eq_zero hl
    subst this
    exact ⟨Or.inl, fun e => e.elim id fun ⟨i, hi, _⟩ => absurd hi (Nat.not_lt_zero _)⟩
  | succ n ih =>
    cases ws with
    | nil => cases hl
    | cons w ws =>
      rw [stores4, ih (k + 1) (by omega) ws (Nat.succ.inj hl)]
      constructor
      · rintro (h1 | ⟨i, hi, e⟩)
        · rcases List.mem_cons.1 h1 with e | e
          · exact .inr ⟨0, Nat.succ_pos n, e⟩
          · exact .inl e
        · exact .inr ⟨i + 1, by omega, e.trans (piece4_congr _ _ _ _ _ _ (by omega))⟩
      · rintro (h1 | ⟨i, hi, e⟩)
        · exact .inl (List.mem_cons_of_mem _ h1)
        · cases i with
          | zero => exact .inl (List.mem_cons.2 (.inl e))
          | succ i =>
            exact .inr ⟨i, by omega, e.trans (piece4_congr _ _ _ _ _ _ (by omega))⟩

/-- The piece that stores the word `w` as plane `i` of set `s`. -/
def piece5 (s : Fin 2) (w : Word) (i : ℕ) (hi : i < 13) : View.Piece (Elt F) S2x13x8x128 .i32 :=
  ⟨Rect.unit (s := S2x13x8x128) ![s.val, i, 0, 0] S1x1x8x128.size (inb5 s i hi), shapeCast S1x1x8x128 w shapeCasts_S8x128_S1x1x8x128⟩

theorem piece5_congr (s : Fin 2) (w : Word) (i i' : ℕ) (hi : i < 13) (hi' : i' < 13) (e : i = i') :
    piece5 (F := F) s w i hi = piece5 s w i' hi' := by
  subst e; rfl

theorem mem_stores5 (s : Fin 2) (n k : ℕ) (h : k + n ≤ 13) (ws : List Word) (hl : ws.length = n)
    (acc : List (View.Piece (Elt F) S2x13x8x128 .i32)) (p : View.Piece (Elt F) S2x13x8x128 .i32) :
    p ∈ stores5 s n k h ws acc ↔ p ∈ acc ∨ ∃ (i : ℕ) (hi : i < n),
      p = piece5 s (ws.getD i default) (k + i) (by omega) := by
  induction n generalizing k ws acc with
  | zero =>
    have : ws = [] := List.eq_nil_of_length_eq_zero hl
    subst this
    exact ⟨Or.inl, fun e => e.elim id fun ⟨i, hi, _⟩ => absurd hi (Nat.not_lt_zero _)⟩
  | succ n ih =>
    cases ws with
    | nil => cases hl
    | cons w ws =>
      rw [stores5, ih (k + 1) (by omega) ws (Nat.succ.inj hl)]
      constructor
      · rintro (h1 | ⟨i, hi, e⟩)
        · rcases List.mem_cons.1 h1 with e | e
          · exact .inr ⟨0, Nat.succ_pos n, e⟩
          · exact .inl e
        · exact .inr ⟨i + 1, by omega, e.trans (piece5_congr _ _ _ _ _ _ (by omega))⟩
      · rintro (h1 | ⟨i, hi, e⟩)
        · exact .inl (List.mem_cons_of_mem _ h1)
        · cases i with
          | zero => exact .inl (List.mem_cons.2 (.inl e))
          | succ i =>
            exact .inr ⟨i, by omega, e.trans (piece5_congr _ _ _ _ _ _ (by omega))⟩

/-- The contents whose planes are `L s`. -/
def laid {n : ℕ} (L : Fin 2 → List Word) : (⟨4, ![2, n, 8, 128]⟩ : Shape).Idx → BitVec 32 :=
  fun y => (L (y 0)).getD (y 1).val default (ix2 (y 2) (y 3))

theorem read_stores4 (arg4 : Memref sig .tc .vmem S2x14x8x128 .i32) (f : BufTy.Contents (Elt F) arg4.view.ty) (L : Fin 2 → List Word) (hL : ∀ s, (L s).length = 14) :
    arg4.view.read (Elt F) (arg4.view.writes (Elt F) f (stores4 1 14 0 (by decide) (L 1) (stores4 0 14 0 (by decide) (L 0) [])))
      = laid (n := 14) L := by
  funext y
  have hm : ∀ p : View.Piece (Elt F) S2x14x8x128 .i32, p ∈ stores4 1 14 0 (by decide) (L 1) (stores4 0 14 0 (by decide) (L 0) [])
      ↔ ∃ (s : Fin 2) (i : ℕ) (hi : i < 14), p = piece4 s ((L s).getD i default) (0 + i) (by omega) := fun p => by
    rw [Fin.exists_fin_two, mem_stores4 1 14 0 _ (L 1) (hL 1), mem_stores4 0 14 0 _ (L 0) (hL 0)]
    simp only [List.not_mem_nil, false_or]
  refine View.read_writes_apply_of_pieces arg4.view f (laid (n := 14) L) _ ?_ y ?_
  · intro p hp x
    obtain ⟨s, i, hi, rfl⟩ := (hm p).1 hp
    refine (shapeCast_unplane _ x).trans ?_
    have h0 : (x 0).val < 1 := (x 0).isLt
    have h1 : (x 1).val < 1 := (x 1).isLt
    have e : (Rect.unit (s := S2x14x8x128) ![s.val, 0 + i, 0, 0] S1x1x8x128.size (inb4 s (0 + i) (by omega))).emb x
        = ix4 s ⟨i, hi⟩ (x 2) (x 3) := by
      refine funext fun a => Fin.ext ?_
      match a with
      | ⟨0, _⟩ => show s.val + 1 * (x 0).val = s.val; omega
      | ⟨1, _⟩ => show 0 + i + 1 * (x 1).val = i; omega
      | ⟨2, _⟩ => show 0 + 1 * (x 2).val = (x 2).val; omega
      | ⟨3, _⟩ => show 0 + 1 * (x 3).val = (x 3).val; omega
    exact (congrArg (laid (n := 14) L) e).symm
  · refine ⟨_, (hm _).2 ⟨y 0, (y 1).val, (y 1).isLt, rfl⟩, ?_⟩
    refine (Rect.mem_set_unit (inb := inb4 (y 0) (0 + (y 1).val) (by have h : (y 1).val < 14 := (y 1).isLt; omega))).2 fun a => ?_
    have h2 : (y 2).val < 8 := (y 2).isLt
    have h3 : (y 3).val < 128 := (y 3).isLt
    match a with
    | ⟨0, _⟩ => show (y 0).val ≤ (y 0).val ∧ (y 0).val < (y 0).val + 1; omega
    | ⟨1, _⟩ => show 0 + (y 1).val ≤ (y 1).val ∧ (y 1).val < 0 + (y 1).val + 1; omega
    | ⟨2, _⟩ => show 0 ≤ (y 2).val ∧ (y 2).val < 0 + 8; omega
    | ⟨3, _⟩ => show 0 ≤ (y 3).val ∧ (y 3).val < 0 + 128; omega

theorem read_stores5 (arg5 : Memref sig .tc .vmem S2x13x8x128 .i32) (f : BufTy.Contents (Elt F) arg5.view.ty) (L : Fin 2 → List Word) (hL : ∀ s, (L s).length = 13) :
    arg5.view.read (Elt F) (arg5.view.writes (Elt F) f (stores5 1 13 0 (by decide) (L 1) (stores5 0 13 0 (by decide) (L 0) [])))
      = laid (n := 13) L := by
  funext y
  have hm : ∀ p : View.Piece (Elt F) S2x13x8x128 .i32, p ∈ stores5 1 13 0 (by decide) (L 1) (stores5 0 13 0 (by decide) (L 0) [])
      ↔ ∃ (s : Fin 2) (i : ℕ) (hi : i < 13), p = piece5 s ((L s).getD i default) (0 + i) (by omega) := fun p => by
    rw [Fin.exists_fin_two, mem_stores5 1 13 0 _ (L 1) (hL 1), mem_stores5 0 13 0 _ (L 0) (hL 0)]
    simp only [List.not_mem_nil, false_or]
  refine View.read_writes_apply_of_pieces arg5.view f (laid (n := 13) L) _ ?_ y ?_
  · intro p hp x
    obtain ⟨s, i, hi, rfl⟩ := (hm p).1 hp
    refine (shapeCast_unplane _ x).trans ?_
    have h0 : (x 0).val < 1 := (x 0).isLt
    have h1 : (x 1).val < 1 := (x 1).isLt
    have e : (Rect.unit (s := S2x13x8x128) ![s.val, 0 + i, 0, 0] S1x1x8x128.size (inb5 s (0 + i) (by omega))).emb x
        = ix4 s ⟨i, hi⟩ (x 2) (x 3) := by
      refine funext fun a => Fin.ext ?_
      match a with
      | ⟨0, _⟩ => show s.val + 1 * (x 0).val = s.val; omega
      | ⟨1, _⟩ => show 0 + i + 1 * (x 1).val = i; omega
      | ⟨2, _⟩ => show 0 + 1 * (x 2).val = (x 2).val; omega
      | ⟨3, _⟩ => show 0 + 1 * (x 3).val = (x 3).val; omega
    exact (congrArg (laid (n := 13) L) e).symm
  · refine ⟨_, (hm _).2 ⟨y 0, (y 1).val, (y 1).isLt, rfl⟩, ?_⟩
    refine (Rect.mem_set_unit (inb := inb5 (y 0) (0 + (y 1).val) (by have h : (y 1).val < 13 := (y 1).isLt; omega))).2 fun a => ?_
    have h2 : (y 2).val < 8 := (y 2).isLt
    have h3 : (y 3).val < 128 := (y 3).isLt
    match a with
    | ⟨0, _⟩ => show (y 0).val ≤ (y 0).val ∧ (y 0).val < (y 0).val + 1; omega
    | ⟨1, _⟩ => show 0 + (y 1).val ≤ (y 1).val ∧ (y 1).val < 0 + (y 1).val + 1; omega
    | ⟨2, _⟩ => show 0 ≤ (y 2).val ∧ (y 2).val < 0 + 8; omega
    | ⟨3, _⟩ => show 0 ≤ (y 3).val ∧ (y 3).val < 0 + 128; omega

theorem pl4_laid (L : Fin 2 → List Word) (hL : ∀ s, (L s).length = 14) (s : Fin 2) : pl4 (laid (n := 14) L) s = L s := by
  refine Eq.trans (table_congr _ _ _ fun k => funext fun j => ?_) (table_getD default 14 (L s) (hL s))
  show (L s).getD k.val default (ix2 (j 0) (j 1)) = (L s).getD k.val default j
  exact congrArg _ (eq_ix2 j).symm

theorem pl5_laid (L : Fin 2 → List Word) (hL : ∀ s, (L s).length = 13) (s : Fin 2) : pl5 (laid (n := 13) L) s = L s := by
  refine Eq.trans (table_congr _ _ _ fun k => funext fun j => ?_) (table_getD default 13 (L s) (hL s))
  show (L s).getD k.val default (ix2 (j 0) (j 1)) = (L s).getD k.val default j
  exact congrArg _ (eq_ix2 j).symm

end Cert.Planes

end
-- ==== Proof.Counts.lean ====
/- One trip of the loop, and the whole loop, as counts: what the planes hold grows by the rows of each class. -/
module

public import proofs.«01_k».proof.Proof.Planes

@[expose] public section

noncomputable section

namespace Cert.Counts

open Cert.KernelIdeal Cert.KernelIdeal.Gen Cert.CarrySave Cert.Trip Cert.Planes
open Idealize.ShloMosaic Idealize.ShloMosaic.TcCoe Idealize.ShloMosaic.ValueIdx
open scoped BigOperators

variable {F : FTy → Type} [FloatOps F]

theorem trips_eq : k0_t1_loop.trips = 4 := by decide

theorem chunk_apply (arg : Memref sig .tc .vmem S512x8x128 .i32) (X : BufTy.Contents (Elt F) arg.view.ty)
    (k : Fin k0_t1_loop.trips) (b : ℕ) (hb : b < 128) (hr : 128 * k.val + b < 512) (x : Fin 8) (y : Fin 128) :
    chunk arg X k (ix3 ⟨b, hb⟩ x y) = arg.view.read (Elt F) X (ix3 ⟨128 * k.val + b, hr⟩ x y) := by
  refine (shapeCast_apply _ _ _ (ix3 ⟨b, hb⟩ x y) rfl).trans ?_
  rw [View.readAt_apply]
  refine congrArg (arg.view.read (Elt F) X) (funext fun a => Fin.ext ?_)
  have e := k0_off1_eq k
  match a with
  | ⟨0, _⟩ =>
    show k0_off1 k 0 + 1 * b = 128 * k.val + b
    rw [e]
    show 128 * k.val + 1 * b = _
    omega
  | ⟨1, _⟩ =>
    show k0_off1 k 1 + 1 * x.val = x.val
    rw [e]
    show 0 + 1 * x.val = _
    omega
  | ⟨2, _⟩ =>
    show k0_off1 k 2 + 1 * y.val = y.val
    rw [e]
    show 0 + 1 * y.val = _
    omega

theorem half_set (s : Fin 2) : 64 * s.val + 2 ^ 6 ≤ 128 := by have := s.isLt; omega

section Trip

variable (arg1 arg2 : Memref sig .tc .vmem S512x8x128 .i32) (arg4 : Memref sig .tc .vmem S2x14x8x128 .i32) (arg5 : Memref sig .tc .vmem S2x13x8x128 .i32)
  (X1 : BufTy.Contents (Elt F) arg1.view.ty) (X2 : BufTy.Contents (Elt F) arg2.view.ty) (k : Fin k0_t1_loop.trips)
  (p g : ℕ → BitVec 32) (j : S8x128.Idx) (c : ℕ)

theorem sum_hits_lt (p g : ℕ → BitVec 32) (c b : ℕ) : (∑ i ∈ Finset.range (2 ^ 6), (hit (p (b + i)) c + hit (g (b + i)) c)) ≤ 128 := by
  refine (Finset.sum_le_card_nsmul _ _ 2 fun i _ => ?_).trans ?_
  · have := hit_le (p (b + i)) c
    have := hit_le (g (b + i)) c
    omega
  · simp

theorem both_le (x y : BitVec 32) (c : ℕ) : both x y c ≤ 1 := by
  unfold both hit
  split <;> split <;> simp

theorem sum_both_lt (p g : ℕ → BitVec 32) (c b : ℕ) : (∑ i ∈ Finset.range (2 ^ 6), both (p (b + i)) (g (b + i)) c) ≤ 64 := by
  refine (Finset.sum_le_card_nsmul _ _ 1 fun i _ => both_le _ _ c).trans ?_
  simp

theorem value_newTotal (hc : c < 32) (f4 : BufTy.Contents (Elt F) arg4.view.ty) (s : Fin 2)
    (hp : ∀ r (hr : r < 512), arg1.view.read (Elt F) X1 (ix3 ⟨r, hr⟩ (j 0) (j 1)) = p r)
    (hg : ∀ r (hr : r < 512), arg2.view.read (Elt F) X2 (ix3 ⟨r, hr⟩ (j 0) (j 1)) = g r)
    (hlt : cnt4 (arg4.view.read (Elt F) f4) s j c + 128 < 2 ^ 14) :
    value ((newTotal arg1 arg2 arg4 X1 X2 k f4 s (64 * s.val) (half_set s)).map (lane j c))
      = cnt4 (arg4.view.read (Elt F) f4) s j c
        + ∑ i ∈ Finset.range (2 ^ 6), (hit (p (128 * k.val + 64 * s.val + i)) c + hit (g (128 * k.val + 64 * s.val + i)) c) := by
  have hk : k.val < 4 := lt_of_lt_of_eq k.isLt trips_eq
  have hh := lane_hom j c
  have ev : value ((totalPlanes (chunk arg1 X1 k) (chunk arg2 X2 k) (64 * s.val) (half_set s)).map (lane j c))
      = ∑ i ∈ Finset.range (2 ^ 6), (hit (p (128 * k.val + 64 * s.val + i)) c + hit (g (128 * k.val + 64 * s.val + i)) c) := by
    unfold totalPlanes
    rw [planes_map hh, value_planes]
    refine (ones_rows2 (lane j c) _ _ 6 _ _ (fun i => hit (p (128 * k.val + i)) c) (fun i => hit (g (128 * k.val + i)) c) ?_ ?_).trans ?_
    · intro i hi
      exact (lane_oneHot _ _ _ _ _ hc).trans (congrArg (hit · c) ((chunk_apply arg1 X1 k i hi (by omega) _ _).trans (hp _ _)))
    · intro i hi
      exact (lane_oneHot _ _ _ _ _ hc).trans (congrArg (hit · c) ((chunk_apply arg2 X2 k i hi (by omega) _ _).trans (hg _ _)))
    · simp only [Nat.add_assoc]
  unfold newTotal
  rw [merge_map hh, value_merge]
  · rw [ev, Nat.add_comm, held4_eq]; rfl
  · rw [List.length_map, List.length_map, held4_eq]
    unfold totalPlanes pl4
    rw [planes_length, table_length]; omega
  · have hs := sum_hits_lt p g c (128 * k.val + 64 * s.val)
    rw [ev, List.length_map, held4_eq]
    have el : (pl4 (arg4.view.read (Elt F) f4) s).length = 14 := table_length _ _
    rw [el]
    change _ + cnt4 (arg4.view.read (Elt F) f4) s j c < _
    omega

theorem value_newMatch (hc : c < 32) (f5 : BufTy.Contents (Elt F) arg5.view.ty) (s : Fin 2)
    (hp : ∀ r (hr : r < 512), arg1.view.read (Elt F) X1 (ix3 ⟨r, hr⟩ (j 0) (j 1)) = p r)
    (hg : ∀ r (hr : r < 512), arg2.view.read (Elt F) X2 (ix3 ⟨r, hr⟩ (j 0) (j 1)) = g r)
    (hlt : cnt5 (arg5.view.read (Elt F) f5) s j c + 64 < 2 ^ 13) :
    value ((newMatch arg1 arg2 arg5 X1 X2 k f5 s (64 * s.val) (half_set s)).map (lane j c))
      = cnt5 (arg5.view.read (Elt F) f5) s j c
        + ∑ i ∈ Finset.range (2 ^ 6), both (p (128 * k.val + 64 * s.val + i)) (g (128 * k.val + 64 * s.val + i)) c := by
  have hk : k.val < 4 := lt_of_lt_of_eq k.isLt trips_eq
  have hh := lane_hom j c
  have ev : value ((matchPlanes (chunk arg1 X1 k) (chunk arg2 X2 k) (64 * s.val) (half_set s)).map (lane j c))
      = ∑ i ∈ Finset.range (2 ^ 6), both (p (128 * k.val + 64 * s.val + i)) (g (128 * k.val + 64 * s.val + i)) c := by
    unfold matchPlanes
    rw [planes_map hh, value_planes]
    refine (ones_rows (lane j c) _ 6 _ _ (fun i => both (p (128 * k.val + i)) (g (128 * k.val + i)) c) ?_).trans ?_
    · intro i hi
      exact (lane_both _ _ _ _ _ _ hc).trans (congrArg₂ (both · · c) ((chunk_apply arg1 X1 k i hi (by omega) _ _).trans (hp _ _)) ((chunk_apply arg2 X2 k i hi (by omega) _ _).trans (hg _ _)))
    · simp only [Nat.add_assoc]
  unfold newMatch
  rw [merge_map hh, value_merge]
  · rw [ev, Nat.add_comm, held5_eq]; rfl
  · rw [List.length_map, List.length_map, held5_eq]
    unfold matchPlanes pl5
    rw [planes_length, table_length]; omega
  · have hs := sum_both_lt p g c (128 * k.val + 64 * s.val)
    rw [ev, List.length_map, held5_eq]
    have el : (pl5 (arg5.view.read (Elt F) f5) s).length = 13 := table_length _ _
    rw [el]
    change _ + cnt5 (arg5.view.read (Elt F) f5) s j c < _
    omega

end Trip

section Loop

variable (𝒱 : Variants) (cd : Dev nD) (bd : Option 𝒱.V) (i : grid0.Coords) (arg1 : Memref sig .tc .vmem S512x8x128 .i32) (harg1 : arg1.IsWhole) (arg2 : Memref sig .tc .vmem S512x8x128 .i32) (harg2 : arg2.IsWhole) (arg3 : Memref sig .tc .vmem S1x128 .f32) (harg3 : arg3.IsWhole) (arg4 : Memref sig .tc .vmem S2x14x8x128 .i32) (harg4 : arg4.IsWhole) (arg5 : Memref sig .tc .vmem S2x13x8x128 .i32) (harg5 : arg5.IsWhole)
  (X1 : BufTy.Contents (Elt F) arg1.view.ty) (X2 : BufTy.Contents (Elt F) arg2.view.ty)
  (p g : ℕ → BitVec 32) (j : S8x128.Idx) (c : ℕ)

theorem cnt4_trip (hc : c < 32) (k : Fin k0_t1_loop.trips) (f4 : BufTy.Contents (Elt F) arg4.view.ty) (f5 : BufTy.Contents (Elt F) arg5.view.ty) (s : Fin 2)
    (hp : ∀ r (hr : r < 512), arg1.view.read (Elt F) X1 (ix3 ⟨r, hr⟩ (j 0) (j 1)) = p r)
    (hg : ∀ r (hr : r < 512), arg2.view.read (Elt F) X2 (ix3 ⟨r, hr⟩ (j 0) (j 1)) = g r)
    (hlt : cnt4 (arg4.view.read (Elt F) f4) s j c + 128 < 2 ^ 14) :
    cnt4 (arg4.view.read (Elt F) (arg4.view.writes (Elt F) f4
        (tripL_k0_t1 (F := F) 𝒱 cd bd i arg1 harg1 arg2 harg2 arg3 harg3 arg4 harg4 arg5 harg5 X1 X2 k f4 f5).1)) s j c
      = cnt4 (arg4.view.read (Elt F) f4) s j c
        + ∑ i ∈ Finset.range (2 ^ 6), (hit (p (128 * k.val + 64 * s.val + i)) c + hit (g (128 * k.val + 64 * s.val + i)) c) := by
  have hL : ∀ s : Fin 2, (newTotal arg1 arg2 arg4 X1 X2 k f4 s (64 * s.val) (half_set s)).length = 14 := fun s => by
    unfold newTotal
    rw [merge_length, held4_eq]; exact table_length _ _
  rw [← value_newTotal arg1 arg2 arg4 X1 X2 k p g j c hc f4 s hp hg hlt, trip_total]
  refine (congrArg (fun A => cnt4 A s j c)
    (read_stores4 arg4 f4 (fun s => newTotal arg1 arg2 arg4 X1 X2 k f4 s (64 * s.val) (half_set s)) hL)).trans ?_
  unfold cnt4
  rw [pl4_laid _ hL]

theorem cnt5_trip (hc : c < 32) (k : Fin k0_t1_loop.trips) (f4 : BufTy.Contents (Elt F) arg4.view.ty) (f5 : BufTy.Contents (Elt F) arg5.view.ty) (s : Fin 2)
    (hp : ∀ r (hr : r < 512), arg1.view.read (Elt F) X1 (ix3 ⟨r, hr⟩ (j 0) (j 1)) = p r)
    (hg : ∀ r (hr : r < 512), arg2.view.read (Elt F) X2 (ix3 ⟨r, hr⟩ (j 0) (j 1)) = g r)
    (hlt : cnt5 (arg5.view.read (Elt F) f5) s j c + 64 < 2 ^ 13) :
    cnt5 (arg5.view.read (Elt F) (arg5.view.writes (Elt F) f5
        (tripL_k0_t1 (F := F) 𝒱 cd bd i arg1 harg1 arg2 harg2 arg3 harg3 arg4 harg4 arg5 harg5 X1 X2 k f4 f5).2)) s j c
      = cnt5 (arg5.view.read (Elt F) f5) s j c
        + ∑ i ∈ Finset.range (2 ^ 6), both (p (128 * k.val + 64 * s.val + i)) (g (128 * k.val + 64 * s.val + i)) c := by
  have hL : ∀ s : Fin 2, (newMatch arg1 arg2 arg5 X1 X2 k f5 s (64 * s.val) (half_set s)).length = 13 := fun s => by
    unfold newMatch
    rw [merge_length, held5_eq]; exact table_length _ _
  rw [← value_newMatch arg1 arg2 arg5 X1 X2 k p g j c hc f5 s hp hg hlt, trip_match]
  refine (congrArg (fun A => cnt5 A s j c)
    (read_stores5 arg5 f5 (fun s => newMatch arg1 arg2 arg5 X1 X2 k f5 s (64 * s.val) (half_set s)) hL)).trans ?_
  unfold cnt5
  rw [pl5_laid _ hL]

/-- The rows of class `c` among `n` chunks, set `s`, in both arguments together, -/
def chunks4 (p g : ℕ → BitVec 32) (c s n : ℕ) : ℕ :=
  ∑ k ∈ Finset.range n, ∑ i ∈ Finset.range (2 ^ 6), (hit (p (128 * k + 64 * s + i)) c + hit (g (128 * k + 64 * s + i)) c)
/-- and those where both hold it. -/
def chunks5 (p g : ℕ → BitVec 32) (c s n : ℕ) : ℕ :=
  ∑ k ∈ Finset.range n, ∑ i ∈ Finset.range (2 ^ 6), both (p (128 * k + 64 * s + i)) (g (128 * k + 64 * s + i)) c

theorem chunks4_le (c s n : ℕ) : chunks4 p g c s n ≤ 128 * n := by
  refine (Finset.sum_le_card_nsmul _ _ 128 fun k _ => sum_hits_lt p g c _).trans ?_
  simp [Nat.mul_comm]

theorem chunks5_le (c s n : ℕ) : chunks5 p g c s n ≤ 64 * n := by
  refine (Finset.sum_le_card_nsmul _ _ 64 fun k _ => sum_both_lt p g c _).trans ?_
  simp [Nat.mul_comm]

theorem writes4_succ (k : Fin k0_t1_loop.trips) (G4 : BufTy.Contents (Elt F) arg4.view.ty) (G5 : BufTy.Contents (Elt F) arg5.view.ty) :
    arg4.view.writes (Elt F) G4 (pb_k0_t1 (F := F) 𝒱 cd bd i arg1 harg1 arg2 harg2 arg3 harg3 arg4 harg4 arg5 harg5 X1 X2 G4 G5 (k.val + 1)).1
      = arg4.view.writes (Elt F) (arg4.view.writes (Elt F) G4 (pb_k0_t1 (F := F) 𝒱 cd bd i arg1 harg1 arg2 harg2 arg3 harg3 arg4 harg4 arg5 harg5 X1 X2 G4 G5 k.val).1)
        (tripL_k0_t1 (F := F) 𝒱 cd bd i arg1 harg1 arg2 harg2 arg3 harg3 arg4 harg4 arg5 harg5 X1 X2 k
          (arg4.view.writes (Elt F) G4 (pb_k0_t1 (F := F) 𝒱 cd bd i arg1 harg1 arg2 harg2 arg3 harg3 arg4 harg4 arg5 harg5 X1 X2 G4 G5 k.val).1)
          (arg5.view.writes (Elt F) G5 (pb_k0_t1 (F := F) 𝒱 cd bd i arg1 harg1 arg2 harg2 arg3 harg3 arg4 harg4 arg5 harg5 X1 X2 G4 G5 k.val).2)).1 :=
  (congrArg (fun q => arg4.view.writes (Elt F) G4 (Prod.fst q))
    (pb_k0_t1_succ (F := F) 𝒱 cd bd i arg1 harg1 arg2 harg2 arg3 harg3 arg4 harg4 arg5 harg5 X1 X2 G4 G5 k)).trans (View.writes_append _ _ _ _)

theorem cnt4_loop (hc : c < 32) (G4 : BufTy.Contents (Elt F) arg4.view.ty) (G5 : BufTy.Contents (Elt F) arg5.view.ty) (s : Fin 2)
    (hp : ∀ r (hr : r < 512), arg1.view.read (Elt F) X1 (ix3 ⟨r, hr⟩ (j 0) (j 1)) = p r)
    (hg : ∀ r (hr : r < 512), arg2.view.read (Elt F) X2 (ix3 ⟨r, hr⟩ (j 0) (j 1)) = g r)
    (hlt : cnt4 (arg4.view.read (Elt F) G4) s j c + 512 < 2 ^ 14) (n : ℕ) (hn : n ≤ 4) :
    cnt4 (arg4.view.read (Elt F) (arg4.view.writes (Elt F) G4
        (pb_k0_t1 (F := F) 𝒱 cd bd i arg1 harg1 arg2 harg2 arg3 harg3 arg4 harg4 arg5 harg5 X1 X2 G4 G5 n).1)) s j c
      = cnt4 (arg4.view.read (Elt F) G4) s j c + chunks4 p g c s.val n := by
  induction n with
  | zero =>
    rw [pb_k0_t1.eq_1, View.writes_nil]
    unfold chunks4
    rw [Finset.sum_range_zero, Nat.add_zero]
  | succ n ih =>
    have h := ih (by omega)
    have hb := chunks4_le p g c s.val n
    obtain ⟨k, rfl⟩ : ∃ k : Fin k0_t1_loop.trips, k.val = n := ⟨⟨n, by rw [trips_eq]; omega⟩, rfl⟩
    rw [writes4_succ]
    refine (cnt4_trip 𝒱 cd bd i arg1 harg1 arg2 harg2 arg3 harg3 arg4 harg4 arg5 harg5 X1 X2 p g j c hc k _ _ s hp hg (by rw [h]; omega)).trans ?_
    rw [h]
    unfold chunks4
    rw [Finset.sum_range_succ, Nat.add_assoc]

theorem writes5_succ (k : Fin k0_t1_loop.trips) (G4 : BufTy.Contents (Elt F) arg4.view.ty) (G5 : BufTy.Contents (Elt F) arg5.view.ty) :
    arg5.view.writes (Elt F) G5 (pb_k0_t1 (F := F) 𝒱 cd bd i arg1 harg1 arg2 harg2 arg3 harg3 arg4 harg4 arg5 harg5 X1 X2 G4 G5 (k.val + 1)).2
      = arg5.view.writes (Elt F) (arg5.view.writes (Elt F) G5 (pb_k0_t1 (F := F) 𝒱 cd bd i arg1 harg1 arg2 harg2 arg3 harg3 arg4 harg4 arg5 harg5 X1 X2 G4 G5 k.val).2)
        (tripL_k0_t1 (F := F) 𝒱 cd bd i arg1 harg1 arg2 harg2 arg3 harg3 arg4 harg4 arg5 harg5 X1 X2 k
          (arg4.view.writes (Elt F) G4 (pb_k0_t1 (F := F) 𝒱 cd bd i arg1 harg1 arg2 harg2 arg3 harg3 arg4 harg4 arg5 harg5 X1 X2 G4 G5 k.val).1)
          (arg5.view.writes (Elt F) G5 (pb_k0_t1 (F := F) 𝒱 cd bd i arg1 harg1 arg2 harg2 arg3 harg3 arg4 harg4 arg5 harg5 X1 X2 G4 G5 k.val).2)).2 :=
  (congrArg (fun q => arg5.view.writes (Elt F) G5 (Prod.snd q))
    (pb_k0_t1_succ (F := F) 𝒱 cd bd i arg1 harg1 arg2 harg2 arg3 harg3 arg4 harg4 arg5 harg5 X1 X2 G4 G5 k)).trans (View.writes_append _ _ _ _)

theorem cnt5_loop (hc : c < 32) (G4 : BufTy.Contents (Elt F) arg4.view.ty) (G5 : BufTy.Contents (Elt F) arg5.view.ty) (s : Fin 2)
    (hp : ∀ r (hr : r < 512), arg1.view.read (Elt F) X1 (ix3 ⟨r, hr⟩ (j 0) (j 1)) = p r)
    (hg : ∀ r (hr : r < 512), arg2.view.read (Elt F) X2 (ix3 ⟨r, hr⟩ (j 0) (j 1)) = g r)
    (hlt : cnt5 (arg5.view.read (Elt F) G5) s j c + 256 < 2 ^ 13) (n : ℕ) (hn : n ≤ 4) :
    cnt5 (arg5.view.read (Elt F) (arg5.view.writes (Elt F) G5
        (pb_k0_t1 (F := F) 𝒱 cd bd i arg1 harg1 arg2 harg2 arg3 harg3 arg4 harg4 arg5 harg5 X1 X2 G4 G5 n).2)) s j c
      = cnt5 (arg5.view.read (Elt F) G5) s j c + chunks5 p g c s.val n := by
  induction n with
  | zero =>
    rw [pb_k0_t1.eq_1, View.writes_nil]
    unfold chunks5
    rw [Finset.sum_range_zero, Nat.add_zero]
  | succ n ih =>
    have h := ih (by omega)
    have hb := chunks5_le p g c s.val n
    obtain ⟨k, rfl⟩ : ∃ k : Fin k0_t1_loop.trips, k.val = n := ⟨⟨n, by rw [trips_eq]; omega⟩, rfl⟩
    rw [writes5_succ]
    refine (cnt5_trip 𝒱 cd bd i arg1 harg1 arg2 harg2 arg3 harg3 arg4 harg4 arg5 harg5 X1 X2 p g j c hc k _ _ s hp hg (by rw [h]; omega)).trans ?_
    rw [h]
    unfold chunks5
    rw [Finset.sum_range_succ, Nat.add_assoc]

end Loop

end Cert.Counts

end
-- ==== Proof.Tail.lean ====
/- What the last grid point stores: the planes of every class added up lane by lane, the lanes summed, and the
   weighted ratio. The printed ending and this one are the same terms once both are unfolded. -/
module

public import proofs.«01_k».proof.Proof.Gen.KernelIdeal.Frame
public import proofs.«01_k».proof.Proof.Counts

@[expose] public section

set_option maxRecDepth 65536

noncomputable section

namespace Cert.Tail

open Cert.KernelIdeal Cert.KernelIdeal.Gen Cert.CarrySave Cert.Trip Cert.Planes
open Idealize.ShloMosaic Idealize.ShloMosaic.TcCoe Idealize.ShloMosaic.Tactic Idealize.ShloMosaic.ValueIdx

/-- Plane `k`'s share of class `c`. -/
def term (c k : ℕ) (w : Word) : Word :=
  shli (andi (shrsi w (broadcast S8x128 (BitVec.ofNat 32 c))) (broadcast S8x128 1#32)) (broadcast S8x128 (BitVec.ofNat 32 k))

/-- The shares of the planes from `k` on. -/
def terms (c : ℕ) : ℕ → List Word → List Word
  | _, [] => []
  | k, w :: ws => term c k w :: terms c (k + 1) ws

/-- Words added up from the left. -/
def sumUp : List Word → Word
  | [] => broadcast S8x128 0#32
  | t :: ts => ts.foldl addi t

/-- Class `c`'s count, from both sets' planes. -/
def acc (l0 l1 : List Word) (c : ℕ) : Word := sumUp (terms c 0 l0 ++ terms c 0 l1)

/-- One class's counts as a slice of the stack. -/
def slice (w : Word) : (s : Shape) × (s.Idx → BitVec 32) := ⟨S1x8x128, shapeCast S1x8x128 w shapeCasts_S8x128_S1x8x128⟩

theorem stack_fits (f : ℕ → Word) :
    Shape.Concatenates ((table 21 fun c => slice (f c.val)).map (·.1)) S21x8x128 0 :=
  concatenates_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S1x8x128_S21x8x128_d0

variable {F : FTy → Type} [FloatOps F]

/-- The classes' counts, stacked, -/
def stack (f : ℕ → Word) : IVec S21x8x128 32 := concatenate S21x8x128 0 (table 21 fun c => slice (f c.val)) (stack_fits f)

/-- and summed over the lanes. -/
def sums (f : ℕ → Word) : FVec F S21 .f32 :=
  multiReduction .add [1] S21 (multiReduction .add [2] S21x8 (sitofp .f32 (stack f)) 0x00000000#32 reduces_S21x8x128_S21x8 (.inl rfl) rfl)
    0x00000000#32 reduces_S21x8_S21 (.inl rfl) rfl

/-- Each class's weighted ratio, from its total and its matches. -/
def weighted (tl il : FVec F S21 .f32) : FVec F S21 .f32 :=
  mulf (mulf tl (broadcast S21 (Scalar.ofBits .f32 0x33800000#32)))
    (divf (addf il (broadcast S21 (Scalar.ofBits .f32 0x33D6BF95#32)))
      (addf (subf tl il) (broadcast S21 (Scalar.ofBits .f32 0x33D6BF95#32))))

/-- Their sum, everywhere. -/
def ending (x : FVec F S21 .f32) : FVec F S1x128 .f32 :=
  broadcast S1x128 (extractAt ![0, 0] (shapeCast S1x1
    (multiReduction .add [1] S1 (shapeCast S1x21 x shapeCasts_S21_S1x21) 0x00000000#32 reduces_S1x21_S1 (.inl rfl) rfl) shapeCasts_S1_S1x1) inpos_S1x1_p0_0)

/-- The block the last point stores, from the planes the two buffers hold. -/
def result (arg4 : Memref sig .tc .vmem S2x14x8x128 .i32) (arg5 : Memref sig .tc .vmem S2x13x8x128 .i32)
    (f4 : BufTy.Contents (Elt F) arg4.view.ty) (f5 : BufTy.Contents (Elt F) arg5.view.ty) : FVec F S1x128 .f32 :=
  ending (weighted (sums (acc (held4 arg4 f4 0) (held4 arg4 f4 1))) (sums (acc (held5 arg5 f5 0) (held5 arg5 f5 1))))

variable (c : Dev nD) (i : grid0.Coords) (arg1 : Memref sig .tc .vmem S512x8x128 .i32) (harg1 : arg1.IsWhole) (arg2 : Memref sig .tc .vmem S512x8x128 .i32) (harg2 : arg2.IsWhole) (arg3 : Memref sig .tc .vmem S1x128 .f32) (harg3 : arg3.IsWhole) (arg4 : Memref sig .tc .vmem S2x14x8x128 .i32) (harg4 : arg4.IsWhole) (arg5 : Memref sig .tc .vmem S2x13x8x128 .i32) (harg5 : arg5.IsWhole)
    (x0 : Vec F S512x8x128 .i32) (x1 : Vec F S512x8x128 .i32) (xs0 : Vec F S2x14x8x128 .i32) (xs1 : Vec F S2x13x8x128 .i32)

theorem run_C (hc0 : ¬cond0_0 i) (hc1 : cond0_1 i) :
    (kernelRun0_C c i arg1 harg1 arg2 harg2 arg3 harg3 arg4 harg4 arg5 harg5 hc0 hc1 x0 x1 xs0 xs1).1
      = [⟨Rect.unit (s := S1x128) ![0, 0] S1x128.size inb_S1x128_S1x128_0_0,
          result arg4 arg5
            (arg4.view.writes (Elt F) (harg4.unread xs0) (pb_k0_t1 (F := F) Variants.none c none i arg1 harg1 arg2 harg2 arg3 harg3 arg4 harg4 arg5 harg5 (harg1.unread x0) (harg2.unread x1) (harg4.unread xs0) (harg5.unread xs1) (Scf.trips k0_t1_loop.lb k0_t1_loop.ub k0_t1_loop.st)).1)
            (arg5.view.writes (Elt F) (harg5.unread xs1) (pb_k0_t1 (F := F) Variants.none c none i arg1 harg1 arg2 harg2 arg3 harg3 arg4 harg4 arg5 harg5 (harg1.unread x0) (harg2.unread x1) (harg4.unread xs0) (harg5.unread xs1) (Scf.trips k0_t1_loop.lb k0_t1_loop.ub k0_t1_loop.st)).2)⟩] := by
  sl_kernel_rfl

theorem run_C_s0 (hc0 : ¬cond0_0 i) (hc1 : cond0_1 i) :
    (kernelRun0_C c i arg1 harg1 arg2 harg2 arg3 harg3 arg4 harg4 arg5 harg5 hc0 hc1 x0 x1 xs0 xs1).2.1
      = (pb_k0_t1 (F := F) Variants.none c none i arg1 harg1 arg2 harg2 arg3 harg3 arg4 harg4 arg5 harg5 (harg1.unread x0) (harg2.unread x1) (harg4.unread xs0) (harg5.unread xs1) (Scf.trips k0_t1_loop.lb k0_t1_loop.ub k0_t1_loop.st)).1 := by
  sl_kernel_rfl

theorem run_C_s1 (hc0 : ¬cond0_0 i) (hc1 : cond0_1 i) :
    (kernelRun0_C c i arg1 harg1 arg2 harg2 arg3 harg3 arg4 harg4 arg5 harg5 hc0 hc1 x0 x1 xs0 xs1).2.2.1
      = (pb_k0_t1 (F := F) Variants.none c none i arg1 harg1 arg2 harg2 arg3 harg3 arg4 harg4 arg5 harg5 (harg1.unread x0) (harg2.unread x1) (harg4.unread xs0) (harg5.unread xs1) (Scf.trips k0_t1_loop.lb k0_t1_loop.ub k0_t1_loop.st)).2 := by
  sl_kernel_rfl

theorem run_B_s0 (hc0 : ¬cond0_0 i) (hc1 : ¬cond0_1 i) :
    (kernelRun0_B c i arg1 harg1 arg2 harg2 arg3 harg3 arg4 harg4 arg5 harg5 hc0 hc1 x0 x1 xs0 xs1).2.1
      = (pb_k0_t1 (F := F) Variants.none c none i arg1 harg1 arg2 harg2 arg3 harg3 arg4 harg4 arg5 harg5 (harg1.unread x0) (harg2.unread x1) (harg4.unread xs0) (harg5.unread xs1) (Scf.trips k0_t1_loop.lb k0_t1_loop.ub k0_t1_loop.st)).1 := by
  sl_kernel_rfl

theorem run_B_s1 (hc0 : ¬cond0_0 i) (hc1 : ¬cond0_1 i) :
    (kernelRun0_B c i arg1 harg1 arg2 harg2 arg3 harg3 arg4 harg4 arg5 harg5 hc0 hc1 x0 x1 xs0 xs1).2.2.1
      = (pb_k0_t1 (F := F) Variants.none c none i arg1 harg1 arg2 harg2 arg3 harg3 arg4 harg4 arg5 harg5 (harg1.unread x0) (harg2.unread x1) (harg4.unread xs0) (harg5.unread xs1) (Scf.trips k0_t1_loop.lb k0_t1_loop.ub k0_t1_loop.st)).2 := by
  sl_kernel_rfl

/-- The first point's zero store into the totals' buffer, -/
def zero4 : List (View.Piece (Elt F) S2x14x8x128 .i32) :=
  [⟨Rect.unit (s := S2x14x8x128) ![0, 0, 0, 0] S2x14x8x128.size inb_S2x14x8x128_S2x14x8x128_0_0_0_0, k0_pay1⟩]
/-- and into the matches' buffer. -/
def zero5 : List (View.Piece (Elt F) S2x13x8x128 .i32) :=
  [⟨Rect.unit (s := S2x13x8x128) ![0, 0, 0, 0] S2x13x8x128.size inb_S2x13x8x128_S2x13x8x128_0_0_0_0, k0_pay2⟩]

theorem run_A_s0 (hc0 : cond0_0 i) (hc1 : ¬cond0_1 i) :
    (kernelRun0_A c i arg1 harg1 arg2 harg2 arg3 harg3 arg4 harg4 arg5 harg5 hc0 hc1 x0 x1).2.1
      = (pb_k0_t1 (F := F) Variants.none c none i arg1 harg1 arg2 harg2 arg3 harg3 arg4 harg4 arg5 harg5 (harg1.unread x0) (harg2.unread x1) (arg4.view.writes (Elt F) arg4.view.junk zero4) (arg5.view.writes (Elt F) arg5.view.junk zero5) (Scf.trips k0_t1_loop.lb k0_t1_loop.ub k0_t1_loop.st)).1 ++ zero4 := by
  sl_kernel_rfl

theorem run_A_s1 (hc0 : cond0_0 i) (hc1 : ¬cond0_1 i) :
    (kernelRun0_A c i arg1 harg1 arg2 harg2 arg3 harg3 arg4 harg4 arg5 harg5 hc0 hc1 x0 x1).2.2.1
      = (pb_k0_t1 (F := F) Variants.none c none i arg1 harg1 arg2 harg2 arg3 harg3 arg4 harg4 arg5 harg5 (harg1.unread x0) (harg2.unread x1) (arg4.view.writes (Elt F) arg4.view.junk zero4) (arg5.view.writes (Elt F) arg5.view.junk zero5) (Scf.trips k0_t1_loop.lb k0_t1_loop.ub k0_t1_loop.st)).2 ++ zero5 := by
  sl_kernel_rfl

end Cert.Tail

end
-- ==== Proof.State.lean ====
/- What the scratch buffers hold after each grid point, as counts of the rows read so far. -/
module

public import proofs.«01_k».proof.Proof.Tail

@[expose] public section

noncomputable section

namespace Cert.State

open Cert.KernelIdeal Cert.KernelIdeal.Gen Cert.CarrySave Cert.Trip Cert.Planes Cert.Counts Cert.Tail
open Idealize.ShloMosaic Idealize.ShloMosaic.TcCoe Idealize.ShloMosaic.ValueIdx
open scoped BigOperators

variable {F : FTy → Type} [FloatOps F]

theorem trips_val : Scf.trips k0_t1_loop.lb k0_t1_loop.ub k0_t1_loop.st = 4 := by decide

theorem value_zero (l : List Bool) (h : ∀ b ∈ l, b = false) : value l = 0 := by
  induction l with
  | nil => rfl
  | cons b l ih =>
    rw [value, ih fun x hx => h x (List.mem_cons_of_mem _ hx), h b List.mem_cons_self]
    rfl

theorem mem_table {V : Type} (n : ℕ) (f : Fin n → V) (x : V) (h : x ∈ table n f) : ∃ k, f k = x := by
  induction n with
  | zero => cases h
  | succ n ih =>
    rcases List.mem_cons.1 h with e | e
    · exact ⟨0, e.symm⟩
    · obtain ⟨k, hk⟩ := ih _ e
      exact ⟨k.succ, hk⟩

theorem cnt4_zero (A : S2x14x8x128.Idx → BitVec 32) (h : ∀ y, A y = 0#32) (s : Fin 2) (j : S8x128.Idx) (c : ℕ) : cnt4 A s j c = 0 := by
  refine value_zero _ fun b hb => ?_
  obtain ⟨w, hw, rfl⟩ := List.mem_map.1 hb
  obtain ⟨k, rfl⟩ := mem_table _ _ _ hw
  show (A _).getLsbD c = false
  rw [h]; exact BitVec.getLsbD_zero

theorem cnt5_zero (A : S2x13x8x128.Idx → BitVec 32) (h : ∀ y, A y = 0#32) (s : Fin 2) (j : S8x128.Idx) (c : ℕ) : cnt5 A s j c = 0 := by
  refine value_zero _ fun b hb => ?_
  obtain ⟨w, hw, rfl⟩ := List.mem_map.1 hb
  obtain ⟨k, rfl⟩ := mem_table _ _ _ hw
  show (A _).getLsbD c = false
  rw [h]; exact BitVec.getLsbD_zero

theorem read_zero4 (arg4 : Memref sig .tc .vmem S2x14x8x128 .i32) (f : BufTy.Contents (Elt F) arg4.view.ty) (y : S2x14x8x128.Idx) :
    arg4.view.read (Elt F) (arg4.view.writes (Elt F) f zero4) y = 0#32 := by
  refine View.read_writes_apply_of_pieces arg4.view f (fun _ => (0#32 : BitVec 32)) zero4 ?_ y ?_
  · intro p hp x
    obtain rfl := List.mem_singleton.1 hp
    rfl
  · refine ⟨_, List.mem_singleton.2 rfl, (Rect.mem_set_unit (inb := inb_S2x14x8x128_S2x14x8x128_0_0_0_0)).2 fun a => ?_⟩
    match a with
    | ⟨0, _⟩ => exact ⟨Nat.zero_le _, (Nat.zero_add 2).symm ▸ (y 0).isLt⟩
    | ⟨1, _⟩ => exact ⟨Nat.zero_le _, (Nat.zero_add 14).symm ▸ (y 1).isLt⟩
    | ⟨2, _⟩ => exact ⟨Nat.zero_le _, (Nat.zero_add 8).symm ▸ (y 2).isLt⟩
    | ⟨3, _⟩ => exact ⟨Nat.zero_le _, (Nat.zero_add 128).symm ▸ (y 3).isLt⟩

theorem read_zero5 (arg5 : Memref sig .tc .vmem S2x13x8x128 .i32) (f : BufTy.Contents (Elt F) arg5.view.ty) (y : S2x13x8x128.Idx) :
    arg5.view.read (Elt F) (arg5.view.writes (Elt F) f zero5) y = 0#32 := by
  refine View.read_writes_apply_of_pieces arg5.view f (fun _ => (0#32 : BitVec 32)) zero5 ?_ y ?_
  · intro p hp x
    obtain rfl := List.mem_singleton.1 hp
    rfl
  · refine ⟨_, List.mem_singleton.2 rfl, (Rect.mem_set_unit (inb := inb_S2x13x8x128_S2x13x8x128_0_0_0_0)).2 fun a => ?_⟩
    match a with
    | ⟨0, _⟩ => exact ⟨Nat.zero_le _, (Nat.zero_add 2).symm ▸ (y 0).isLt⟩
    | ⟨1, _⟩ => exact ⟨Nat.zero_le _, (Nat.zero_add 13).symm ▸ (y 1).isLt⟩
    | ⟨2, _⟩ => exact ⟨Nat.zero_le _, (Nat.zero_add 8).symm ▸ (y 2).isLt⟩
    | ⟨3, _⟩ => exact ⟨Nat.zero_le _, (Nat.zero_add 128).symm ▸ (y 3).isLt⟩

section Step

variable (cd : Dev nD) (i : grid0.Coords) (arg1 : Memref sig .tc .vmem S512x8x128 .i32) (harg1 : arg1.IsWhole) (arg2 : Memref sig .tc .vmem S512x8x128 .i32) (harg2 : arg2.IsWhole) (arg3 : Memref sig .tc .vmem S1x128 .f32) (harg3 : arg3.IsWhole) (arg4 : Memref sig .tc .vmem S2x14x8x128 .i32) (harg4 : arg4.IsWhole) (arg5 : Memref sig .tc .vmem S2x13x8x128 .i32) (harg5 : arg5.IsWhole)
    (x0 : Vec F S512x8x128 .i32) (x1 : Vec F S512x8x128 .i32) (xs0 : Vec F S2x14x8x128 .i32) (xs1 : Vec F S2x13x8x128 .i32)
    (p g : ℕ → BitVec 32) (j : S8x128.Idx) (c : ℕ)

/-- The totals' buffer after a point's loop, from what it held, -/
theorem loop4 (hc : c < 32) (s : Fin 2)
    (hp : ∀ r (hr : r < 512), x0 (ix3 ⟨r, hr⟩ (j 0) (j 1)) = p r) (hg : ∀ r (hr : r < 512), x1 (ix3 ⟨r, hr⟩ (j 0) (j 1)) = g r)
    (G4 : BufTy.Contents (Elt F) arg4.view.ty) (G5 : BufTy.Contents (Elt F) arg5.view.ty)
    (hlt : cnt4 (arg4.view.read (Elt F) G4) s j c + 512 < 2 ^ 14) :
    cnt4 (arg4.view.read (Elt F) (arg4.view.writes (Elt F) G4
        (pb_k0_t1 (F := F) Variants.none cd none i arg1 harg1 arg2 harg2 arg3 harg3 arg4 harg4 arg5 harg5 (harg1.unread x0) (harg2.unread x1) G4 G5 (Scf.trips k0_t1_loop.lb k0_t1_loop.ub k0_t1_loop.st)).1)) s j c
      = cnt4 (arg4.view.read (Elt F) G4) s j c + chunks4 p g c s.val 4 := by
  rw [trips_val]
  exact cnt4_loop Variants.none cd none i arg1 harg1 arg2 harg2 arg3 harg3 arg4 harg4 arg5 harg5 (harg1.unread x0) (harg2.unread x1) p g j c hc G4 G5 s
    (fun r hr => (congrFun (harg1.read_unread x0) _).trans (hp r hr)) (fun r hr => (congrFun (harg2.read_unread x1) _).trans (hg r hr)) hlt 4 (le_refl 4)

/-- and the matches' buffer. -/
theorem loop5 (hc : c < 32) (s : Fin 2)
    (hp : ∀ r (hr : r < 512), x0 (ix3 ⟨r, hr⟩ (j 0) (j 1)) = p r) (hg : ∀ r (hr : r < 512), x1 (ix3 ⟨r, hr⟩ (j 0) (j 1)) = g r)
    (G4 : BufTy.Contents (Elt F) arg4.view.ty) (G5 : BufTy.Contents (Elt F) arg5.view.ty)
    (hlt : cnt5 (arg5.view.read (Elt F) G5) s j c + 256 < 2 ^ 13) :
    cnt5 (arg5.view.read (Elt F) (arg5.view.writes (Elt F) G5
        (pb_k0_t1 (F := F) Variants.none cd none i arg1 harg1 arg2 harg2 arg3 harg3 arg4 harg4 arg5 harg5 (harg1.unread x0) (harg2.unread x1) G4 G5 (Scf.trips k0_t1_loop.lb k0_t1_loop.ub k0_t1_loop.st)).2)) s j c
      = cnt5 (arg5.view.read (Elt F) G5) s j c + chunks5 p g c s.val 4 := by
  rw [trips_val]
  exact cnt5_loop Variants.none cd none i arg1 harg1 arg2 harg2 arg3 harg3 arg4 harg4 arg5 harg5 (harg1.unread x0) (harg2.unread x1) p g j c hc G4 G5 s
    (fun r hr => (congrFun (harg1.read_unread x0) _).trans (hp r hr)) (fun r hr => (congrFun (harg2.read_unread x1) _).trans (hg r hr)) hlt 4 (le_refl 4)

/-- A middle point, -/
theorem step_B4 (hc0 : ¬cond0_0 i) (hc1 : ¬cond0_1 i) (hc : c < 32) (s : Fin 2)
    (hp : ∀ r (hr : r < 512), x0 (ix3 ⟨r, hr⟩ (j 0) (j 1)) = p r) (hg : ∀ r (hr : r < 512), x1 (ix3 ⟨r, hr⟩ (j 0) (j 1)) = g r)
    (hlt : cnt4 xs0 s j c + 512 < 2 ^ 14) :
    cnt4 (sout0_B_0 cd i arg1 harg1 arg2 harg2 arg3 harg3 arg4 harg4 arg5 harg5 hc0 hc1 x0 x1 xs0 xs1) s j c = cnt4 xs0 s j c + chunks4 p g c s.val 4 := by
  have hr := harg4.read_unread (Val := Elt F) xs0
  have h := loop4 cd i arg1 harg1 arg2 harg2 arg3 harg3 arg4 harg4 arg5 harg5 x0 x1 p g j c hc s hp hg (harg4.unread xs0) (harg5.unread xs1) (by rw [hr]; exact hlt)
  rw [← run_B_s0 cd i arg1 harg1 arg2 harg2 arg3 harg3 arg4 harg4 arg5 harg5 x0 x1 xs0 xs1 hc0 hc1, hr,
    View.read_writes_of_cover arg4.view (harg4.unread xs0) VS0_0 VS0_0.junk _ (scover0_B_0 cd i arg1 harg1 arg2 harg2 arg3 harg3 arg4 harg4 arg5 harg5 hc0 hc1 x0 x1 xs0 xs1)] at h
  exact h

theorem step_B5 (hc0 : ¬cond0_0 i) (hc1 : ¬cond0_1 i) (hc : c < 32) (s : Fin 2)
    (hp : ∀ r (hr : r < 512), x0 (ix3 ⟨r, hr⟩ (j 0) (j 1)) = p r) (hg : ∀ r (hr : r < 512), x1 (ix3 ⟨r, hr⟩ (j 0) (j 1)) = g r)
    (hlt : cnt5 xs1 s j c + 256 < 2 ^ 13) :
    cnt5 (sout0_B_1 cd i arg1 harg1 arg2 harg2 arg3 harg3 arg4 harg4 arg5 harg5 hc0 hc1 x0 x1 xs0 xs1) s j c = cnt5 xs1 s j c + chunks5 p g c s.val 4 := by
  have hr := harg5.read_unread (Val := Elt F) xs1
  have h := loop5 cd i arg1 harg1 arg2 harg2 arg3 harg3 arg4 harg4 arg5 harg5 x0 x1 p g j c hc s hp hg (harg4.unread xs0) (harg5.unread xs1) (by rw [hr]; exact hlt)
  rw [← run_B_s1 cd i arg1 harg1 arg2 harg2 arg3 harg3 arg4 harg4 arg5 harg5 x0 x1 xs0 xs1 hc0 hc1, hr,
    View.read_writes_of_cover arg5.view (harg5.unread xs1) VS0_1 VS0_1.junk _ (scover0_B_1 cd i arg1 harg1 arg2 harg2 arg3 harg3 arg4 harg4 arg5 harg5 hc0 hc1 x0 x1 xs0 xs1)] at h
  exact h

/-- and the first one, which zeroes the buffers. -/
theorem step_A4 (hc0 : cond0_0 i) (hc1 : ¬cond0_1 i) (hc : c < 32) (s : Fin 2)
    (hp : ∀ r (hr : r < 512), x0 (ix3 ⟨r, hr⟩ (j 0) (j 1)) = p r) (hg : ∀ r (hr : r < 512), x1 (ix3 ⟨r, hr⟩ (j 0) (j 1)) = g r) :
    cnt4 (sout0_A_0 cd i arg1 harg1 arg2 harg2 arg3 harg3 arg4 harg4 arg5 harg5 hc0 hc1 x0 x1) s j c = chunks4 p g c s.val 4 := by
  have hz := cnt4_zero _ (read_zero4 (F := F) arg4 arg4.view.junk) s j c
  have h := loop4 cd i arg1 harg1 arg2 harg2 arg3 harg3 arg4 harg4 arg5 harg5 x0 x1 p g j c hc s hp hg (arg4.view.writes (Elt F) arg4.view.junk zero4) (arg5.view.writes (Elt F) arg5.view.junk zero5) (by rw [hz]; decide)
  rw [hz, Nat.zero_add, ← View.writes_append, ← run_A_s0 cd i arg1 harg1 arg2 harg2 arg3 harg3 arg4 harg4 arg5 harg5 x0 x1 hc0 hc1,
    View.read_writes_of_cover arg4.view arg4.view.junk VS0_0 VS0_0.junk _ (scover0_A_0 cd i arg1 harg1 arg2 harg2 arg3 harg3 arg4 harg4 arg5 harg5 hc0 hc1 x0 x1)] at h
  exact h

theorem step_A5 (hc0 : cond0_0 i) (hc1 : ¬cond0_1 i) (hc : c < 32) (s : Fin 2)
    (hp : ∀ r (hr : r < 512), x0 (ix3 ⟨r, hr⟩ (j 0) (j 1)) = p r) (hg : ∀ r (hr : r < 512), x1 (ix3 ⟨r, hr⟩ (j 0) (j 1)) = g r) :
    cnt5 (sout0_A_1 cd i arg1 harg1 arg2 harg2 arg3 harg3 arg4 harg4 arg5 harg5 hc0 hc1 x0 x1) s j c = chunks5 p g c s.val 4 := by
  have hz := cnt5_zero _ (read_zero5 (F := F) arg5 arg5.view.junk) s j c
  have h := loop5 cd i arg1 harg1 arg2 harg2 arg3 harg3 arg4 harg4 arg5 harg5 x0 x1 p g j c hc s hp hg (arg4.view.writes (Elt F) arg4.view.junk zero4) (arg5.view.writes (Elt F) arg5.view.junk zero5) (by rw [hz]; decide)
  rw [hz, Nat.zero_add, ← View.writes_append, ← run_A_s1 cd i arg1 harg1 arg2 harg2 arg3 harg3 arg4 harg4 arg5 harg5 x0 x1 hc0 hc1,
    View.read_writes_of_cover arg5.view arg5.view.junk VS0_1 VS0_1.junk _ (scover0_A_1 cd i arg1 harg1 arg2 harg2 arg3 harg3 arg4 harg4 arg5 harg5 hc0 hc1 x0 x1)] at h
  exact h

end Step

section Points

variable (m : (ℓ : Loc nD τ sig) → Buf (Elt F) ℓ) (cd : Dev nD) (p g : ℕ → ℕ → BitVec 32) (j : S8x128.Idx) (c : ℕ)

/-- The rows of class `c` among the first `n` points, set `s`, in both arguments together, -/
def points4 (p g : ℕ → ℕ → BitVec 32) (c s n : ℕ) : ℕ := ∑ u ∈ Finset.range n, chunks4 (p u) (g u) c s 4
/-- and those where both hold it. -/
def points5 (p g : ℕ → ℕ → BitVec 32) (c s n : ℕ) : ℕ := ∑ u ∈ Finset.range n, chunks5 (p u) (g u) c s 4

theorem points4_succ (s n : ℕ) : points4 p g c s (n + 1) = points4 p g c s n + chunks4 (p n) (g n) c s 4 := Finset.sum_range_succ _ _
theorem points5_succ (s n : ℕ) : points5 p g c s (n + 1) = points5 p g c s n + chunks5 (p n) (g n) c s 4 := Finset.sum_range_succ _ _

theorem points4_le (s n : ℕ) : points4 p g c s n ≤ 512 * n := by
  refine (Finset.sum_le_card_nsmul _ _ 512 fun u _ => chunks4_le (p u) (g u) c s 4).trans ?_
  simp [Nat.mul_comm]

theorem points5_le (s n : ℕ) : points5 p g c s n ≤ 256 * n := by
  refine (Finset.sum_le_card_nsmul _ _ 256 fun u _ => chunks5_le (p u) (g u) c s 4).trans ?_
  simp [Nat.mul_comm]

theorem lt_points {n : ℕ} (hn : n < cfg0.N) : n < 16 := lt_of_lt_of_eq hn N_0

/-- Before the last point, the buffers hold the counts of the rows read so far. -/
theorem held (hc : c < 32) (s : Fin 2)
    (hp : ∀ t : Fin cfg0.N, ∀ r (hr : r < 512), iblk m cd 0 t (ix3 ⟨r, hr⟩ (j 0) (j 1)) = p t.val r)
    (hg : ∀ t : Fin cfg0.N, ∀ r (hr : r < 512), iblk m cd 1 t (ix3 ⟨r, hr⟩ (j 0) (j 1)) = g t.val r)
    (n : ℕ) (hn : n < cfg0.N) (hl : n < 15) :
    cnt4 (outsAt0 m cd n hn).2.1 s j c = points4 p g c s.val (n + 1) ∧ cnt5 (outsAt0 m cd n hn).2.2 s j c = points5 p g c s.val (n + 1) := by
  induction n with
  | zero =>
    have e := outsAt0_A m cd ⟨0, hn⟩ (Nat.zero_mod _) (by show ¬ (0 % 16 = 15); decide)
    rw [show outsAt0 m cd 0 hn = _ from e]
    unfold points4 points5
    rw [Finset.sum_range_one, Finset.sum_range_one]
    exact ⟨step_A4 cd _ _ _ _ _ _ _ _ _ _ _ _ _ (p 0) (g 0) j c _ _ hc s (hp ⟨0, hn⟩) (hg ⟨0, hn⟩),
      step_A5 cd _ _ _ _ _ _ _ _ _ _ _ _ _ (p 0) (g 0) j c _ _ hc s (hp ⟨0, hn⟩) (hg ⟨0, hn⟩)⟩
  | succ n ih =>
    obtain ⟨h4, h5⟩ := ih (by omega) (by omega)
    have b4 := points4_le p g c s.val (n + 1)
    have b5 := points5_le p g c s.val (n + 1)
    have e := outsAt0_B m cd ⟨n + 1, hn⟩ (by show ¬ ((n + 1) % 16 = 0); omega) (by show ¬ ((n + 1) % 16 = 15); omega)
    rw [show outsAt0 m cd (n + 1) hn = _ from e]
    rw [points4_succ p g c s.val (n + 1), points5_succ p g c s.val (n + 1), ← h4, ← h5]
    rw [← h4] at b4
    rw [← h5] at b5
    exact ⟨step_B4 cd _ _ _ _ _ _ _ _ _ _ _ _ _ _ _ (p (n + 1)) (g (n + 1)) j c _ _ hc s (hp ⟨n + 1, hn⟩) (hg ⟨n + 1, hn⟩) (by show cnt4 (outsAt0 m cd n _).2.1 s j c + 512 < 2 ^ 14; omega),
      step_B5 cd _ _ _ _ _ _ _ _ _ _ _ _ _ _ _ (p (n + 1)) (g (n + 1)) j c _ _ hc s (hp ⟨n + 1, hn⟩) (hg ⟨n + 1, hn⟩) (by show cnt5 (outsAt0 m cd n _).2.2 s j c + 256 < 2 ^ 13; omega)⟩

end Points

end Cert.State

end
-- ==== Proof.Flat.lean ====
/- The arguments read as one long row, the classes' counts over it, and the number both programs make of them. -/
module

public import proofs.«01_k».proof.Proof.Planes
public import Idealize.ShloMosaic.PureOps.Ideal

@[expose] public section

noncomputable section

namespace Cert.Flat

open Cert.Planes
open Idealize.ShloMosaic Idealize.ShloMosaic.ValueIdx
open scoped BigOperators

/-- An argument array's shape. -/
abbrev Arg : Shape := ⟨3, ![32, 512, 512]⟩

/-- Element `n` of an argument in row-major order. -/
def flat (x : Arg.Idx → BitVec 32) (n : ℕ) : BitVec 32 :=
  x (ix3 ⟨n / 262144 % 32, Nat.mod_lt _ (by decide)⟩ ⟨n / 512 % 512, Nat.mod_lt _ (by decide)⟩ ⟨n % 512, Nat.mod_lt _ (by decide)⟩)

/-- How often a class occurs in the two arguments together, -/
def total (x y : Arg.Idx → BitVec 32) (c : ℕ) : ℕ := ∑ n ∈ Finset.range 8388608, (hit (flat x n) c + hit (flat y n) c)

/-- and how often in both at once. -/
def inBoth (x y : Arg.Idx → BitVec 32) (c : ℕ) : ℕ := ∑ n ∈ Finset.range 8388608, both (flat x n) (flat y n) c

theorem total_le (x y : Arg.Idx → BitVec 32) (c : ℕ) : total x y c ≤ 2 ^ 24 := by
  refine (Finset.sum_le_card_nsmul _ _ 2 fun n _ => ?_).trans (by simp)
  have := hit_le (flat x n) c
  have := hit_le (flat y n) c
  omega

theorem inBoth_le (x y : Arg.Idx → BitVec 32) (c : ℕ) : inBoth x y c ≤ 2 ^ 23 := by
  refine (Finset.sum_le_card_nsmul _ _ 1 fun n _ => ?_).trans (by simp)
  have h1 := hit_le (flat x n) c
  have h2 := hit_le (flat y n) c
  exact Nat.mul_le_mul h1 h2

/-- A class's weighted ratio. -/
def share (T I : ℕ) : EReal :=
  ((T : ℝ) : EReal) * Ideal.ofBits .f32 0x33800000#32
    * Ideal.div (((I : ℝ) : EReal) + Ideal.ofBits .f32 0x33D6BF95#32) ((((T : ℝ) : EReal) - ((I : ℝ) : EReal)) + Ideal.ofBits .f32 0x33D6BF95#32)

/-- The classes' ratios summed: what the kernel and the reference compute. -/
def score (x y : Arg.Idx → BitVec 32) : EReal := ∑ c : Fin 21, share (total x y c.val) (inBoth x y c.val)

end Cert.Flat

end
-- ==== Proof.Reindex.lean ====
/- Summing over grid points, chunks, sets, rows and lanes is summing over the arguments' elements. -/
module

public import proofs.«01_k».proof.Proof.State
public import proofs.«01_k».proof.Proof.Flat
public import Idealize.ShloMosaic.Lib.Pipeline.ValueKit

@[expose] public section

noncomputable section

namespace Cert.Reindex

open Cert.Planes Cert.Counts Cert.State Cert.Flat
open Idealize.ShloMosaic Finset
open scoped BigOperators

/-- Lane `l` of row `r` of block `u` of an argument seen as 16 blocks of 512 rows of 1024 lanes. -/
def rows (x : Arg.Idx → BitVec 32) (l u r : ℕ) : BitVec 32 := flat x ((u * 512 + r) * 1024 + l)

/-- The rows in the order in which the kernel reads them, one set at a time. -/
theorem sum_sets (f : ℕ → ℕ) :
    (∑ u ∈ range 16, ∑ k ∈ range 4, ∑ i ∈ range (2 ^ 6), f (u * 512 + (128 * k + 64 * 0 + i)))
      + (∑ u ∈ range 16, ∑ k ∈ range 4, ∑ i ∈ range (2 ^ 6), f (u * 512 + (128 * k + 64 * 1 + i))) = ∑ r ∈ range 8192, f r := by
  rw [show 8192 = 16 * 512 from rfl, sum_range_mul_split 16 512 f, ← sum_add_distrib]
  refine sum_congr rfl fun u _ => ?_
  rw [show 512 = 4 * 128 from rfl, sum_range_mul_split 4 128 fun q => f (u * (4 * 128) + q), ← sum_add_distrib]
  refine sum_congr rfl fun k _ => ?_
  rw [show 128 = 2 * 64 from rfl, sum_range_mul_split 2 64 fun q => f (u * (4 * (2 * 64)) + (k * (2 * 64) + q)), sum_range_succ, sum_range_one]
  exact congrArg₂ (· + ·) (sum_congr rfl fun i _ => congrArg f (by omega)) (sum_congr rfl fun i _ => congrArg f (by omega))

/-- The lanes, then the rows. -/
theorem sum_lanes (h : ℕ → ℕ) :
    ∑ a : Fin 8, ∑ b : Fin 128, ∑ r ∈ range 8192, h (r * 1024 + (a.val * 128 + b.val)) = ∑ n ∈ range 8388608, h n := by
  rw [Fin.sum_univ_eq_sum_range (fun a => ∑ b : Fin 128, ∑ r ∈ range 8192, h (r * 1024 + (a * 128 + b.val))) 8,
    sum_congr rfl fun a _ => Fin.sum_univ_eq_sum_range (fun b => ∑ r ∈ range 8192, h (r * 1024 + (a * 128 + b))) 128,
    ← sum_range_mul_split 8 128 fun l => ∑ r ∈ range 8192, h (r * 1024 + l), sum_comm]
  exact (sum_range_mul_split 8192 1024 h).symm

variable (x y : Arg.Idx → BitVec 32) (c : ℕ)

theorem total_eq :
    ∑ a : Fin 8, ∑ b : Fin 128, (points4 (rows x (a.val * 128 + b.val)) (rows y (a.val * 128 + b.val)) c 0 16
      + points4 (rows x (a.val * 128 + b.val)) (rows y (a.val * 128 + b.val)) c 1 16) = total x y c := by
  rw [total, ← sum_lanes fun n => hit (flat x n) c + hit (flat y n) c]
  refine sum_congr rfl fun a _ => sum_congr rfl fun b _ => ?_
  rw [← sum_sets fun r => hit (flat x (r * 1024 + (a.val * 128 + b.val))) c + hit (flat y (r * 1024 + (a.val * 128 + b.val))) c]
  unfold points4 chunks4 rows
  rfl

theorem inBoth_eq :
    ∑ a : Fin 8, ∑ b : Fin 128, (points5 (rows x (a.val * 128 + b.val)) (rows y (a.val * 128 + b.val)) c 0 16
      + points5 (rows x (a.val * 128 + b.val)) (rows y (a.val * 128 + b.val)) c 1 16) = inBoth x y c := by
  rw [inBoth, ← sum_lanes fun n => both (flat x n) (flat y n) c]
  refine sum_congr rfl fun a _ => sum_congr rfl fun b _ => ?_
  rw [← sum_sets fun r => both (flat x (r * 1024 + (a.val * 128 + b.val))) (flat y (r * 1024 + (a.val * 128 + b.val))) c]
  unfold points5 chunks5 rows
  rfl

end Cert.Reindex

end
-- ==== Proof.Block.lean ====
/- The windows' blocks as rows of the arguments. -/
module

public import proofs.«01_k».proof.Proof.Gen.KernelIdeal.Frame
public import proofs.«01_k».proof.Proof.Reindex
public import Idealize.ShloMosaic.Lib.Pipeline.ValueKit

@[expose] public section

set_option maxRecDepth 16384

noncomputable section

namespace Cert.Block

open Cert.KernelIdeal Cert.KernelIdeal.Gen Cert.Flat Cert.Reindex
open Idealize.ShloMosaic Idealize.ShloMosaic.TcCoe
open scoped BigOperators

variable {F : FTy → Type} [FloatOps F]

/-- Row `r` of the arguments' reshape into rows of 8 by 128, read at an element. -/
theorem reshaped (x : S32x512x512.Idx → BitVec 32) (i : S8192x8x128.Idx) (u r l : ℕ) (hr : r < 512) (hu : u < 16) (h0 : (i 0).val = u * 512 + r)
    (hl : (i 1).val * 128 + (i 2).val = l) :
    shapeCast S8192x8x128 x shapeCasts_S32x512x512_S8192x8x128 i = rows x l u r := by
  have h1 : (i 1).val < 8 := (i 1).isLt
  have h2 : (i 2).val < 128 := (i 2).isLt
  refine shapeCast_apply x _ i _ ?_
  rw [Shape.rowMajor_val_three, Shape.rowMajor_val_three]
  show (((u * 512 + r) * 1024 + l) / 262144 % 32 * 512 + ((u * 512 + r) * 1024 + l) / 512 % 512) * 512 + ((u * 512 + r) * 1024 + l) % 512
    = ((i 0).val * 8 + (i 1).val) * 128 + (i 2).val
  omega

variable (m : (ℓ : Loc nD τ sig) → Buf (Elt F) ℓ) (c : Dev nD)

theorem index0 : ∀ t : Fin cfg0.N, (cfg0.win 0).index t = ![t.val, 0, 0] := by decide +kernel
theorem index1 : ∀ t : Fin cfg0.N, (cfg0.win 1).index t = ![t.val, 0, 0] := by decide +kernel

theorem block0 (t : Fin cfg0.N) (r : ℕ) (hr : r < 512) (a : Fin 8) (b : Fin 128) :
    iblk m c 0 t (ValueIdx.ix3 ⟨r, hr⟩ a b) = rows (m (c.tc.loc main_arg0)) (a.val * 128 + b.val) t.val r := by
  blk_simp [iblk]
  entry_read
  have ht : t.val < 16 := lt_of_lt_of_eq t.isLt N_0
  refine reshaped _ _ t.val r _ hr ht ?_ ?_
  · blk_simp
    rw [show win0_0.index t 0 = t.val from congrFun (index0 t) 0]
  · blk_simp
    rw [show win0_0.index t 1 = 0 from congrFun (index0 t) 1, show win0_0.index t 2 = 0 from congrFun (index0 t) 2]
    show (0 * 8 + a.val) * 128 + (0 * 128 + b.val) = a.val * 128 + b.val
    omega

theorem block1 (t : Fin cfg0.N) (r : ℕ) (hr : r < 512) (a : Fin 8) (b : Fin 128) :
    iblk m c 1 t (ValueIdx.ix3 ⟨r, hr⟩ a b) = rows (m (c.tc.loc main_arg1)) (a.val * 128 + b.val) t.val r := by
  blk_simp [iblk]
  entry_read
  have ht : t.val < 16 := lt_of_lt_of_eq t.isLt N_0
  refine reshaped _ _ t.val r _ hr ht ?_ ?_
  · blk_simp
    rw [show win0_1.index t 0 = t.val from congrFun (index1 t) 0]
  · blk_simp
    rw [show win0_1.index t 1 = 0 from congrFun (index1 t) 1, show win0_1.index t 2 = 0 from congrFun (index1 t) 2]
    show (0 * 8 + a.val) * 128 + (0 * 128 + b.val) = a.val * 128 + b.val
    omega

end Cert.Block

end
-- ==== Proof.Acc.lean ====
/- The planes added up are the counts: lane by lane, class `c`'s sum of shifted bits is the number the two sets'
   planes hold. -/
module

public import proofs.«01_k».proof.Proof.Tail

@[expose] public section

noncomputable section

namespace Cert.Acc

open Cert.KernelIdeal Cert.KernelIdeal.Gen Cert.CarrySave Cert.Trip Cert.Planes Cert.Tail
open Idealize.ShloMosaic Idealize.ShloMosaic.TcCoe Idealize.ShloMosaic.ValueIdx

theorem bit_word (x : BitVec 32) (c : ℕ) (hc : c < 32) :
    IntOp.andi (IntOp.shrsi .vector x (BitVec.ofNat 32 c)) 1#32 = BitVec.ofNat 32 (x.getLsbD c).toNat := by
  have e : (BitVec.ofNat 32 c).toNat = c := by rw [BitVec.toNat_ofNat]; omega
  unfold IntOp.andi IntOp.shrsi
  rw [if_pos (by rw [e]; exact hc), BitVec.sshiftRight', e]
  refine BitVec.eq_of_getLsbD_eq fun i hi => ?_
  rw [BitVec.getLsbD_and, BitVec.getLsbD_sshiftRight, BitVec.getLsbD_one]
  cases i with
  | zero =>
    have h1 : c + 0 < 32 := hc
    cases hb : x.getLsbD c <;> simp [hb, hc]
  | succ i =>
    cases hb : x.getLsbD c <;> simp

theorem term_apply (c k : ℕ) (hc : c < 32) (hk : k < 32) (w : Word) (j : S8x128.Idx) :
    term c k w j = BitVec.ofNat 32 (2 ^ k * (lane j c w).toNat) := by
  show IntOp.shli .vector (IntOp.andi (IntOp.shrsi .vector (w j) (BitVec.ofNat 32 c)) 1#32) (BitVec.ofNat 32 k) = _
  rw [bit_word _ _ hc]
  have e : (BitVec.ofNat 32 k).toNat = k := by rw [BitVec.toNat_ofNat]; omega
  unfold IntOp.shli
  rw [if_pos (by rw [e]; exact hk), BitVec.shiftLeft_eq', e]
  apply BitVec.eq_of_toNat_eq
  rw [BitVec.toNat_shiftLeft, BitVec.toNat_ofNat, BitVec.toNat_ofNat, Nat.shiftLeft_eq, Nat.mul_comm (2 ^ k), Nat.mod_mul_mod]
  rfl

theorem foldl_terms (c : ℕ) (hc : c < 32) (j : S8x128.Idx) (l : List Word) (k : ℕ) (hk : k + l.length ≤ 32) (t : Word) (a : ℕ)
    (ht : t j = BitVec.ofNat 32 a) :
    ((terms c k l).foldl addi t) j = BitVec.ofNat 32 (a + 2 ^ k * value (l.map (lane j c))) := by
  induction l generalizing k t a with
  | nil => simpa [terms, value] using ht
  | cons w ws ih =>
    rw [List.length_cons] at hk
    rw [terms, List.foldl_cons, ih (k + 1) (by omega) (addi t (term c k w)) (a + 2 ^ k * (lane j c w).toNat)]
    · rw [List.map_cons, value, pow_succ]
      congr 1
      ring
    · show IntOp.addi (t j) (term c k w j) = _
      rw [ht, term_apply c k hc (by omega)]
      exact (BitVec.ofNat_add _ _).symm

theorem acc_apply (c : ℕ) (hc : c < 32) (j : S8x128.Idx) (l0 l1 : List Word) (h0 : l0.length ≤ 32) (h1 : l1.length ≤ 32) (hne : l0 ≠ []) :
    acc l0 l1 c j = BitVec.ofNat 32 (value (l0.map (lane j c)) + value (l1.map (lane j c))) := by
  cases l0 with
  | nil => exact absurd rfl hne
  | cons w ws =>
    rw [List.length_cons] at h0
    show ((terms c 1 ws ++ terms c 0 l1).foldl addi (term c 0 w)) j = _
    rw [List.foldl_append, foldl_terms c hc j l1 0 (by omega) _ ((lane j c w).toNat + 2 * value (ws.map (lane j c)))]
    · rw [List.map_cons, value, pow_zero, Nat.one_mul]
    · rw [foldl_terms c hc j ws 1 (by omega) _ (lane j c w).toNat]
      · rw [pow_one]
      · rw [term_apply c 0 hc (by omega), pow_zero, Nat.one_mul]

end Cert.Acc

end
-- ==== Proof.Last.lean ====
/- What the last grid point stores, from the arguments' rows. -/
module

public import proofs.«01_k».proof.Proof.Acc
public import proofs.«01_k».proof.Proof.State
public import Idealize.ShloMosaic.Lib.Pipeline.Value

@[expose] public section

noncomputable section

namespace Cert.Last

open Cert.KernelIdeal Cert.KernelIdeal.Gen Cert.Trip Cert.Planes Cert.Counts Cert.Tail Cert.State
open Idealize.ShloMosaic Idealize.ShloMosaic.TcCoe Idealize.ShloMosaic.ValueIdx
open scoped BigOperators

variable {F : FTy → Type} [FloatOps F]

/-- A class's word from the totals' planes, -/
theorem acc4 (A : S2x14x8x128.Idx → BitVec 32) (c : ℕ) (hc : c < 32) (j : S8x128.Idx) :
    acc (pl4 A 0) (pl4 A 1) c j = BitVec.ofNat 32 (cnt4 A 0 j c + cnt4 A 1 j c) :=
  Acc.acc_apply c hc j _ _ (le_of_eq_of_le (table_length _ _) (by decide)) (le_of_eq_of_le (table_length _ _) (by decide)) (List.cons_ne_nil _ _)

/-- and from the matches' planes. -/
theorem acc5 (A : S2x13x8x128.Idx → BitVec 32) (c : ℕ) (hc : c < 32) (j : S8x128.Idx) :
    acc (pl5 A 0) (pl5 A 1) c j = BitVec.ofNat 32 (cnt5 A 0 j c + cnt5 A 1 j c) :=
  Acc.acc_apply c hc j _ _ (le_of_eq_of_le (table_length _ _) (by decide)) (le_of_eq_of_le (table_length _ _) (by decide)) (List.cons_ne_nil _ _)

variable (m : (ℓ : Loc nD τ sig) → Buf (Elt F) ℓ) (cd : Dev nD)

/-- The last point's block is the ending over two buffers whose counts are those of all rows. -/
theorem stored (p g : S8x128.Idx → ℕ → ℕ → BitVec 32)
    (hp : ∀ (j : S8x128.Idx) (t : Fin cfg0.N), ∀ r (hr : r < 512), iblk m cd 0 t (ix3 ⟨r, hr⟩ (j 0) (j 1)) = p j t.val r)
    (hg : ∀ (j : S8x128.Idx) (t : Fin cfg0.N), ∀ r (hr : r < 512), iblk m cd 1 t (ix3 ⟨r, hr⟩ (j 0) (j 1)) = g j t.val r)
    (t : Fin cfg0.N) (ht : t.val = 15) :
    ∃ (A4 : S2x14x8x128.Idx → BitVec 32) (A5 : S2x13x8x128.Idx → BitVec 32),
      (∀ (s : Fin 2) (j : S8x128.Idx) (c : ℕ), c < 32 → cnt4 A4 s j c = points4 (p j) (g j) c s.val 16 ∧ cnt5 A5 s j c = points5 (p j) (g j) c s.val 16)
        ∧ ∀ y : S1x128.Idx, (outsAt0 m cd t.val t.isLt).1 y
            = ending (weighted (F := F) (sums (acc (pl4 A4 0) (pl4 A4 1))) (sums (acc (pl5 A5 0) (pl5 A5 1)))) y := by
  have hprev : t.val - 1 < cfg0.N := Nat.lt_of_le_of_lt (Nat.sub_le _ _) t.isLt
  have h0 : ¬t.val % 16 = 0 := by omega
  have h1 : t.val % 16 = 15 := by omega
  have hX : ∀ (s : Fin 2) (j : S8x128.Idx) (c : ℕ), c < 32 →
      cnt4 (outsAt0 m cd (t.val - 1) hprev).2.1 s j c = points4 (p j) (g j) c s.val 15
        ∧ cnt5 (outsAt0 m cd (t.val - 1) hprev).2.2 s j c = points5 (p j) (g j) c s.val 15 := fun s j c hc => by
    have h := held m cd (p j) (g j) j c hc s (hp j) (hg j) (t.val - 1) hprev (by omega)
    rwa [show t.val - 1 + 1 = 15 by omega] at h
  have hw4 : (scM0_0 : Memref sig .tc .vmem S2x14x8x128 .i32).IsWhole := Memref.isWhole_whole _
  have hw5 : (scM0_1 : Memref sig .tc .vmem S2x13x8x128 .i32).IsWhole := Memref.isWhole_whole _
  refine ⟨scM0_0.view.read (Elt F) (scM0_0.view.writes (Elt F) (hw4.unread (outsAt0 m cd (t.val - 1) hprev).2.1)
      (pb_k0_t1 (F := F) Variants.none cd none (grid0.coords t) (ms0_0 t) (hs0_0 t) (ms0_1 t) (hs0_1 t) (ms0_2 t) (hs0_2 t) scM0_0 hw4 scM0_1 hw5
        ((hs0_0 t).unread (iblk m cd 0 t)) ((hs0_1 t).unread (iblk m cd 1 t)) (hw4.unread (outsAt0 m cd (t.val - 1) hprev).2.1) (hw5.unread (outsAt0 m cd (t.val - 1) hprev).2.2)
        (Scf.trips k0_t1_loop.lb k0_t1_loop.ub k0_t1_loop.st)).1),
    scM0_1.view.read (Elt F) (scM0_1.view.writes (Elt F) (hw5.unread (outsAt0 m cd (t.val - 1) hprev).2.2)
      (pb_k0_t1 (F := F) Variants.none cd none (grid0.coords t) (ms0_0 t) (hs0_0 t) (ms0_1 t) (hs0_1 t) (ms0_2 t) (hs0_2 t) scM0_0 hw4 scM0_1 hw5
        ((hs0_0 t).unread (iblk m cd 0 t)) ((hs0_1 t).unread (iblk m cd 1 t)) (hw4.unread (outsAt0 m cd (t.val - 1) hprev).2.1) (hw5.unread (outsAt0 m cd (t.val - 1) hprev).2.2)
        (Scf.trips k0_t1_loop.lb k0_t1_loop.ub k0_t1_loop.st)).2), fun s j c hc => ?_, fun y => ?_⟩
  · obtain ⟨e4, e5⟩ := hX s j c hc
    have r4 := hw4.read_unread (Val := Elt F) (outsAt0 m cd (t.val - 1) hprev).2.1
    have r5 := hw5.read_unread (Val := Elt F) (outsAt0 m cd (t.val - 1) hprev).2.2
    have b4 := points4_le (p j) (g j) c s.val 15
    have b5 := points5_le (p j) (g j) c s.val 15
    have h4 := loop4 cd (grid0.coords t) (ms0_0 t) (hs0_0 t) (ms0_1 t) (hs0_1 t) (ms0_2 t) (hs0_2 t) scM0_0 hw4 scM0_1 hw5 (iblk m cd 0 t) (iblk m cd 1 t)
      (p j t.val) (g j t.val) j c hc s (hp j t) (hg j t) (hw4.unread (outsAt0 m cd (t.val - 1) hprev).2.1) (hw5.unread (outsAt0 m cd (t.val - 1) hprev).2.2)
      (by rw [r4, e4]; omega)
    have h5 := loop5 cd (grid0.coords t) (ms0_0 t) (hs0_0 t) (ms0_1 t) (hs0_1 t) (ms0_2 t) (hs0_2 t) scM0_0 hw4 scM0_1 hw5 (iblk m cd 0 t) (iblk m cd 1 t)
      (p j t.val) (g j t.val) j c hc s (hp j t) (hg j t) (hw4.unread (outsAt0 m cd (t.val - 1) hprev).2.1) (hw5.unread (outsAt0 m cd (t.val - 1) hprev).2.2)
      (by rw [r5, e5]; omega)
    rw [r4, e4] at h4
    rw [r5, e5] at h5
    have n4 : points4 (p j) (g j) c s.val 16 = points4 (p j) (g j) c s.val 15 + chunks4 (p j t.val) (g j t.val) c s.val 4 := by
      rw [ht]; exact points4_succ (p j) (g j) c s.val 15
    have n5 : points5 (p j) (g j) c s.val 16 = points5 (p j) (g j) c s.val 15 + chunks5 (p j t.val) (g j t.val) c s.val 4 := by
      rw [ht]; exact points5_succ (p j) (g j) c s.val 15
    exact ⟨h4.trans n4.symm, h5.trans n5.symm⟩
  · rw [outsAt0_C m cd t h0 h1]
    rw [← held4_eq, ← held4_eq, ← held5_eq, ← held5_eq]
    dsimp only
    unfold out0_C_2
    rw [run_C]
    refine View.read_writes_apply_of_pieces VO0_2 VO0_2.junk _ _ ?_ y ?_
    · intro q hq x
      obtain rfl := List.mem_singleton.1 hq
      rfl
    · refine ⟨_, List.mem_singleton.2 rfl, (Rect.mem_set_unit (inb := inb_S1x128_S1x128_0_0)).2 fun a => ?_⟩
      match a with
      | ⟨0, _⟩ => exact ⟨Nat.zero_le _, (Nat.zero_add 1).symm ▸ (y 0).isLt⟩
      | ⟨1, _⟩ => exact ⟨Nat.zero_le _, (Nat.zero_add 128).symm ▸ (y 1).isLt⟩

end Cert.Last

end
-- ==== Proof.Sums.lean ====
/- The ending over the extended reals: the lanes of every class summed, then the classes' ratios. -/
module

public import proofs.«01_k».proof.Proof.Acc
public import proofs.«01_k».proof.Proof.Flat
public import Idealize.ShloMosaic.Lib.Pipeline.Value
public import Idealize.ShloMosaic.PureOps.Ideal.Laws
public import Idealize.ShloMosaic.PureOps.Reduce

@[expose] public section

noncomputable section

namespace Cert.Sums

open Cert.KernelIdeal Cert.KernelIdeal.Gen Cert.Trip Cert.Planes Cert.Tail Cert.Flat
open Idealize.ShloMosaic Idealize.ShloMosaic.TcCoe Idealize.ShloMosaic.ValueIdx
open scoped BigOperators

theorem table_get {V : Type} (n : ℕ) (f : Fin n → V) (k : ℕ) (hk : k < n) (h : k < (table n f).length) : (table n f)[k] = f ⟨k, hk⟩ := by
  induction n generalizing k with
  | zero => exact absurd hk (Nat.not_lt_zero _)
  | succ n ih =>
    cases k with
    | zero => rfl
    | succ k => exact ih (fun i => f i.succ) k (by omega) _

theorem table_all {V : Type} (n : ℕ) (f : Fin n → V) (P : V → Prop) (hP : ∀ k, P (f k)) : ∀ v ∈ table n f, P v := by
  induction n with
  | zero => exact fun v hv => absurd hv List.not_mem_nil
  | succ n ih =>
    intro v hv
    rcases List.mem_cons.1 hv with rfl | hv
    · exact hP 0
    · exact ih (fun i => f i.succ) (fun k => hP k.succ) v hv

theorem slice_apply (w : Word) (a : Fin 8) (b : Fin 128) :
    shapeCast S1x8x128 w shapeCasts_S8x128_S1x8x128 (ix3 0 a b) = w (ix2 a b) := by
  refine shapeCast_apply w _ (ix3 0 a b) (ix2 a b) ?_
  rw [Shape.rowMajor_val_three, Shape.rowMajor_val_two]
  show a.val * 128 + b.val = (0 * 8 + a.val) * 128 + b.val
  omega

theorem stack_apply (f : ℕ → Word) (c : Fin 21) (a : Fin 8) (b : Fin 128) : stack f (ix3 c a b) = f c.val (ix2 a b) := by
  refine (concatenate_apply_piece (t := S21x8x128) 0 (table 21 fun c => slice (f c.val)) (stack_fits f) (ix3 c a b) c.val
    ((table_length 21 _).symm ▸ c.isLt) S1x8x128 (shapeCast S1x8x128 (f c.val) shapeCasts_S8x128_S1x8x128)
    (table_get 21 _ c.val c.isLt _) rfl c.val ?_ (ix3 0 a b) ?_ (Nat.add_zero _)).trans (slice_apply _ a b)
  · rw [List.sum_eq_card_nsmul _ 1]
    · rw [List.length_map, List.length_map, List.length_take, table_length, Nat.min_eq_left c.isLt.le, smul_eq_mul, Nat.mul_one]
    · intro n hn
      rw [List.map_map] at hn
      obtain ⟨v, hv, rfl⟩ := List.mem_map.1 hn
      exact table_all 21 (fun c => slice (f c.val)) (fun v => (if h : v.1.rank = S21x8x128.rank then v.1.size ((0 : Fin S21x8x128.rank).cast h.symm) else 0) = 1)
        (fun k => rfl) v (List.mem_of_mem_take hv)
  · intro d hd
    match d with
    | ⟨0, _⟩ => exact absurd rfl hd
    | ⟨1, _⟩ => rfl
    | ⟨2, _⟩ => rfl

theorem lift_lane (c : Fin 21) (a : Fin 8) (b : Fin 128) : reduces_S21x8x128_S21x8.lift (ix2 c a) b = ix3 c a b := by
  funext d
  match d with
  | ⟨0, _⟩ => rfl
  | ⟨1, _⟩ => rfl
  | ⟨2, _⟩ => rfl

theorem lift_row (c : Fin 21) (a : Fin 8) : reduces_S21x8_S21.lift (ix1 c) a = ix2 c a := by
  funext d
  match d with
  | ⟨0, _⟩ => rfl
  | ⟨1, _⟩ => rfl

theorem lift_class (j : S1.Idx) (c : Fin 21) : reduces_S1x21_S1.lift j c = ix2 0 c := by
  funext d
  match d with
  | ⟨0, _⟩ => exact Subsingleton.elim (α := Fin 1) _ _
  | ⟨1, _⟩ => rfl

theorem coe_sum {ι : Type} (s : Finset ι) (f : ι → ℕ) : ((((∑ i ∈ s, f i : ℕ)) : ℝ) : EReal) = ∑ i ∈ s, ((f i : ℝ) : EReal) := by
  classical
  induction s using Finset.induction_on with
  | empty => simp
  | insert i s hi ih => rw [Finset.sum_insert hi, Finset.sum_insert hi, Nat.cast_add, EReal.coe_add, ih]

/-- A class's sum, from what its word holds lane by lane. -/
theorem sums_apply (f : ℕ → Word) (c : Fin 21) (N : Fin 8 → Fin 128 → ℕ) (hN : ∀ a b, f c.val (ix2 a b) = BitVec.ofNat 32 (N a b))
    (hlt : ∀ a b, N a b < 2 ^ 30) :
    sums (F := Ideal) f (ix1 c) = (((∑ a : Fin 8, ∑ b : Fin 128, N a b : ℕ) : ℝ) : EReal) := by
  rw [coe_sum]
  refine (Ideal.multiReduction_add_single (a := 1) (multiReduction .add [2] S21x8 (sitofp (F := Ideal) .f32 (stack f)) 0x00000000#32 reduces_S21x8x128_S21x8 (.inl rfl) rfl)
    _ reduces_S21x8_S21 (.inl rfl) rfl (ix1 c)).trans (Finset.sum_congr rfl fun (a : Fin 8) _ => ?_)
  rw [coe_sum]
  refine (congrArg _ (lift_row c a)).trans ?_
  refine (Ideal.multiReduction_add_single (a := 2) (sitofp (F := Ideal) .f32 (stack f)) _ reduces_S21x8x128_S21x8 (.inl rfl) rfl (ix2 c a)).trans
    (Finset.sum_congr rfl fun (b : Fin 128) _ => ?_)
  refine (congrArg _ (lift_lane c a b)).trans ?_
  show (((stack f (ix3 c a b)).toInt : ℝ) : EReal) = _
  have h := hlt a b
  rw [stack_apply, hN, WordCmp.toInt_ofNat_of_lt (by omega)]
  norm_cast

theorem ending_apply (x : FVec Ideal S21 .f32) (y : S1x128.Idx) : ending x y = ∑ c : Fin 21, x (ix1 c) := by
  refine (Ideal.multiReduction_add_single (a := 1) (shapeCast S1x21 x shapeCasts_S21_S1x21) 0x00000000#32 reduces_S1x21_S1 (.inl rfl) rfl _).trans
    (Finset.sum_congr rfl fun (c : Fin 21) _ => ?_)
  refine (congrArg _ (lift_class _ c)).trans (shapeCast_apply x _ (ix2 0 c) (ix1 c) ?_)
  rw [Shape.rowMajor_val_two, Shape.rowMajor_val_one]
  show c.val = 0 * 21 + c.val
  omega

/-- The stored block, from the classes' sums. -/
theorem block_apply (f g : ℕ → Word) (T I : ℕ → ℕ) (hT : ∀ c : Fin 21, sums (F := Ideal) f (ix1 c) = ((T c.val : ℝ) : EReal))
    (hI : ∀ c : Fin 21, sums (F := Ideal) g (ix1 c) = ((I c.val : ℝ) : EReal)) (y : S1x128.Idx) :
    ending (weighted (F := Ideal) (sums f) (sums g)) y = ∑ c : Fin 21, share (T c.val) (I c.val) := by
  rw [ending_apply]
  refine Finset.sum_congr rfl fun c _ => ?_
  show sums (F := Ideal) f (ix1 c) * Ideal.ofBits .f32 0x33800000#32
    * Ideal.div (sums (F := Ideal) g (ix1 c) + Ideal.ofBits .f32 0x33D6BF95#32)
        ((sums (F := Ideal) f (ix1 c) - sums (F := Ideal) g (ix1 c)) + Ideal.ofBits .f32 0x33D6BF95#32) = _
  rw [hT, hI]
  rfl

end Cert.Sums

end
-- ==== Proof.Value.lean ====
/- The array the kernel leaves and the number that the host reads off it. -/
module

public import proofs.«01_k».proof.Proof.Block
public import proofs.«01_k».proof.Proof.Last
public import proofs.«01_k».proof.Proof.Sums
public import Idealize.ShloMosaic.Lib.Pipeline.ValueKit

@[expose] public section

set_option maxRecDepth 16384

noncomputable section

namespace Cert.Value

open Cert.KernelIdeal Cert.KernelIdeal.Gen Cert.Planes Cert.Tail Cert.State Cert.Flat Cert.Reindex
open Idealize.ShloMosaic Idealize.ShloMosaic.TcCoe
open scoped BigOperators

variable (m : (ℓ : Loc nD τ sig) → Buf (Elt Ideal) ℓ) (cd : Dev nD)

/-- The number the kernel computes. -/
abbrev number : EReal := score (m (cd.tc.loc main_arg0)) (m (cd.tc.loc main_arg1))

/-- A lane pair's place in a row. -/
abbrev place (j : S8x128.Idx) : ℕ := (j 0).val * 128 + (j 1).val

/-- What the last point stores, everywhere. -/
theorem last_point (t : Fin cfg0.N) (ht : t.val = 15) (y : S1x128.Idx) : (outsAt0 m cd t.val t.isLt).1 y = number m cd := by
  obtain ⟨A4, A5, hA, h⟩ := Last.stored m cd (fun j u r => rows (m (cd.tc.loc main_arg0)) (place j) u r) (fun j u r => rows (m (cd.tc.loc main_arg1)) (place j) u r)
    (fun j t r hr => Block.block0 m cd t r hr (j 0) (j 1)) (fun j t r hr => Block.block1 m cd t r hr (j 0) (j 1)) t ht
  rw [h]
  refine Sums.block_apply _ _ (total (m (cd.tc.loc main_arg0)) (m (cd.tc.loc main_arg1))) (inBoth (m (cd.tc.loc main_arg0)) (m (cd.tc.loc main_arg1)))
    (fun c => ?_) (fun c => ?_) y
  · have hc : c.val < 32 := by omega
    rw [← total_eq]
    refine Sums.sums_apply _ c (fun a b => points4 (rows (m (cd.tc.loc main_arg0)) (a.val * 128 + b.val)) (rows (m (cd.tc.loc main_arg1)) (a.val * 128 + b.val)) c.val 0 16
      + points4 (rows (m (cd.tc.loc main_arg0)) (a.val * 128 + b.val)) (rows (m (cd.tc.loc main_arg1)) (a.val * 128 + b.val)) c.val 1 16) (fun a b => ?_) (fun a b => ?_)
    · rw [Last.acc4 A4 c.val hc, (hA 0 _ c.val hc).1, (hA 1 _ c.val hc).1]
      rfl
    · have h0 := points4_le (rows (m (cd.tc.loc main_arg0)) (a.val * 128 + b.val)) (rows (m (cd.tc.loc main_arg1)) (a.val * 128 + b.val)) c.val 0 16
      have h1 := points4_le (rows (m (cd.tc.loc main_arg0)) (a.val * 128 + b.val)) (rows (m (cd.tc.loc main_arg1)) (a.val * 128 + b.val)) c.val 1 16
      omega
  · have hc : c.val < 32 := by omega
    rw [← inBoth_eq]
    refine Sums.sums_apply _ c (fun a b => points5 (rows (m (cd.tc.loc main_arg0)) (a.val * 128 + b.val)) (rows (m (cd.tc.loc main_arg1)) (a.val * 128 + b.val)) c.val 0 16
      + points5 (rows (m (cd.tc.loc main_arg0)) (a.val * 128 + b.val)) (rows (m (cd.tc.loc main_arg1)) (a.val * 128 + b.val)) c.val 1 16) (fun a b => ?_) (fun a b => ?_)
    · rw [Last.acc5 A5 c.val hc, (hA 0 _ c.val hc).2, (hA 1 _ c.val hc).2]
      rfl
    · have h0 := points5_le (rows (m (cd.tc.loc main_arg0)) (a.val * 128 + b.val)) (rows (m (cd.tc.loc main_arg1)) (a.val * 128 + b.val)) c.val 0 16
      have h1 := points5_le (rows (m (cd.tc.loc main_arg0)) (a.val * 128 + b.val)) (rows (m (cd.tc.loc main_arg1)) (a.val * 128 + b.val)) c.val 1 16
      omega

/-- The last point. -/
def lastT : Fin cfg0.N := ⟨15, lt_of_lt_of_eq (by decide) N_0.symm⟩

/-- The array the launch leaves. -/
theorem array_eq : (dats m 0 cd).arrAt 2 (cfgs 0).N = fun _ => number m cd := by
  refine (dats m 0 cd).arrAt_eq_of_after_last 2 lastT (by decide +kernel) _ fun j => ?_
  blk_simp
  rw [after0_2]
  exact last_point m cd lastT rfl _

/-- The host's slice of it. -/
theorem host_eq : Pipeline.afterTail₀ cfgs (dats m) 0 (V0 m) [hostOps1] cd main_v4 = fun _ => number m cd := by
  unfold Pipeline.afterTail₀
  simp only [hostOps1, List.flatten_cons, List.flatten_nil, List.append_nil]
  after_results
  have e : Pipeline.withArrays (cfgs 0).spec cd (V0 m cd) (fun w => (dats m 0 cd).arrAt w (cfgs 0).N) (Proc.tc.devRef main_v2) = fun _ => number m cd :=
    (Pipeline.withArrays_arr (cfgs 0).spec (by exact (by decide : Function.Injective (Pipeline.arrRef spec0))) cd (V0 m cd) _ 2).trans (array_eq m cd)
  rw [e]
  rfl

/-- Every run of the kernel ends with that number in its result and the arguments as they were. -/
theorem run (g : Dev nD → PrngReg) :
    θ_run defs (onTc (τ := τ) (main (F := Ideal))) ⟨m, fun _ => 0, g⟩ (fun r => ∀ c : Dev nD,
      r.2.mem ((c.tc : Thread nD τ).loc main_v4) = (fun _ => number m c)
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  (θ_run defs _ _).mono (fun _ h c =>
    ⟨((h c).2 main_v4 (Pipeline.mem_restRefs_of main_v4 (by decide) (by decide))).trans (host_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩) (run_main m g)

end Cert.Value

end
-- ==== Proof.Hist.lean ====
/- The reference's histograms as counts: scattering ones at index words into zeros leaves in entry `x` the number of
   words that are `x`. -/
module

public import proofs.«01_k».proof.Proof.Gen.ReferenceIdeal.Read
public import proofs.«01_k».proof.Proof.Flat
public import Idealize.ShloMosaic.Lib.Routing.OpsPair
public import Idealize.ShloMosaic.Lib.ValueIdxCore

@[expose] public section

noncomputable section

namespace Cert.Hist

open Idealize.ShloMosaic Idealize.ShloMosaic.ValueIdx Idealize.ShloMosaic.Routing Cert.Planes
open scoped BigOperators

theorem foldl_hit {N : ℕ} (w : ℕ → BitVec 32) (c : ℕ) (step : BitVec 32 → Fin N → BitVec 32)
    (hstep : ∀ a k, step a k = a + BitVec.ofNat 32 (hit (w k.val) c)) (a : BitVec 32) :
    (List.finRange N).foldl step a = a + BitVec.ofNat 32 (∑ k ∈ Finset.range N, hit (w k) c) := by
  have go : ∀ (l : List (Fin N)) (a : BitVec 32), l.foldl step a = a + BitVec.ofNat 32 ((l.map fun k => hit (w k.val) c).sum) := by
    intro l
    induction l with
    | nil => intro a; simp
    | cons k l ih =>
      intro a
      rw [List.foldl_cons, ih, hstep, List.map_cons, List.sum_cons, BitVec.ofNat_add, BitVec.add_assoc]
  rw [go, Finset.sum_range fun k => hit (w k) c]
  rw [Fin.sum_univ_def]

theorem toInt_eq_iff (x : BitVec 32) (c : ℕ) (hc : c < 2 ^ 31) : x.toInt = (c : Int) ↔ x = BitVec.ofNat 32 c := by
  have e : (BitVec.ofNat 32 c).toInt = (c : Int) := by
    rw [BitVec.toInt_eq_toNat_of_lt, BitVec.toNat_ofNat, Nat.mod_eq_of_lt (by omega)]
    rw [BitVec.toNat_ofNat, Nat.mod_eq_of_lt (by omega)]
    omega
  constructor
  · intro h
    exact BitVec.eq_of_toInt_eq (h.trans e.symm)
  · intro h
    rw [h, e]

/-- Where one index word sends an update. -/
theorem lands {M N : ℕ} (d : ScatterDims (shape1 M) (shape2 N 1) (shape1 N)) (hiw : d.insertedWindowDims = [0])
    (hsd : d.scatterDimsToOperandDims = [0]) (hivd : d.indexVectorDim = 1) (idx : IVec (shape2 N 1) 32) (w : ℕ → BitVec 32)
    (hidx : ∀ y, idx y = w (y 0).val) (k : (shape1 N).Idx) (x : Fin M) (hx : x.val < 2 ^ 31) :
    d.resultIdx? k idx = some (ix1 x) ↔ w (k 0).val = BitVec.ofNat 32 x.val := by
  rw [resultIdx?_ix1, ← toInt_eq_iff _ _ hx]
  have hw : d.window k 0 = 0 := dif_neg (by
    intro h
    have := (List.mem_filter.1 h).2
    rw [hiw] at this
    simp at this)
  have hm : (0 : Fin 1) ∈ d.scatterDimsToOperandDims := hsd ▸ List.mem_singleton.2 rfl
  have hs : d.start k idx 0 = (w (k 0).val).toInt := by
    refine (dif_pos hm).trans ?_
    rw [hidx]
    congr 2
    unfold ScatterDims.siIdx
    rw [dif_neg (by rw [hivd]; exact Nat.zero_ne_one)]
    exact congrArg (fun b => (k b).val) (Subsingleton.elim (α := Fin 1) _ 0)
  rw [hs, hw]
  simp

/-- Ones scattered into zeros count the words. -/
theorem scatter_counts {M N : ℕ} (d : ScatterDims (shape1 M) (shape2 N 1) (shape1 N)) (hiw : d.insertedWindowDims = [0])
    (hsd : d.scatterDimsToOperandDims = [0]) (hivd : d.indexVectorDim = 1) (x0 : IVec (shape1 M) 32) (hx0 : ∀ y, x0 y = 0#32)
    (idx : IVec (shape2 N 1) 32) (w : ℕ → BitVec 32) (hidx : ∀ y, idx y = w (y 0).val)
    (upd : IVec (shape1 N) 32) (hupd : ∀ y, upd y = 1#32) (x : Fin M) (hx : x.val < 2 ^ 31) :
    Host.scatter d IntOp.addi x0 idx upd (ix1 x) = BitVec.ofNat 32 (∑ k ∈ Finset.range N, hit (w k) x.val) := by
  have hn : (shape1 N).numel = N := Shape.numel_rank1 _
  rw [scatter_at, hx0]
  refine (foldl_hit w x.val _ (fun a k => ?_) _).trans ?_
  · have hk : (((shape1 N).rowMajor.symm k) 0).val = k.val := by
      have := Shape.rowMajor_val_one ((shape1 N).rowMajor.symm k)
      rw [Equiv.apply_symm_apply] at this
      exact this.symm
    have hl := lands d hiw hsd hivd idx w hidx ((shape1 N).rowMajor.symm k) x hx
    rw [hk] at hl
    unfold hit
    by_cases e : w k.val = BitVec.ofNat 32 x.val
    · rw [if_pos (hl.2 e), if_pos e, hupd]; rfl
    · rw [if_neg fun h => e (hl.1 h), if_neg e]; exact (BitVec.add_zero a).symm
  · rw [hn, BitVec.zero_add]

end Cert.Hist

end
-- ==== Proof.Ref.lean ====
/- The reference's result is the score of its arguments. -/
module

public import proofs.«01_k».proof.Proof.Hist

@[expose] public section

noncomputable section

namespace Cert.Ref

open Cert.ReferenceIdeal Cert.ReferenceIdeal.Gen Cert.ReferenceIdeal.Read Cert.Planes Cert.Flat Cert.Hist
open Idealize.ShloMosaic Idealize.ShloMosaic.TcCoe Idealize.ShloMosaic.ValueIdx Idealize.ShloMosaic.Routing
open scoped BigOperators

/-- A word that is not negative is left as it is by the clip and the wrap of an index. -/
theorem clip_word (x b : BitVec 32) (h : x.toNat < 2 ^ 31) :
    Scalar.select (IntOp.cmpi .slt (IntOp.maxsi 0#32 x) 0#32) b (IntOp.maxsi 0#32 x) = x := by
  have e : IntOp.maxsi 0#32 x = x := by
    unfold IntOp.maxsi
    by_cases h0 : x.slt 0#32
    · rw [BitVec.slt_iff_toInt_lt, BitVec.toInt_eq_toNat_of_lt (by omega)] at h0
      exact absurd h0 (by simp)
    · have hx : x.toInt = x.toNat := BitVec.toInt_eq_toNat_of_lt (by omega)
      by_cases h1 : (0#32).slt x
      · rw [if_neg (by simpa using h0)]
      · rw [if_neg (by simpa using h0)]
  rw [e]
  exact wrap_of_lt x b h

variable (x0 x1 : Arg.Idx → BitVec 32)

theorem row0 (i : S8388608.Idx) : val_main_v0 (F := Ideal) x0 i = flat x0 (i 0).val := by
  rw [val_main_v0_apply]
  have h := (i 0).isLt
  refine congrArg x0 (funext fun a => Fin.ext ?_)
  match a with
  | ⟨0, _⟩ =>
    show (i 0).val / 262144 = (i 0).val / 262144 % 32
    have h' : (i 0).val < 8388608 := h
    omega
  | ⟨1, _⟩ => rfl
  | ⟨2, _⟩ => rfl

theorem row1 (i : S8388608.Idx) : val_main_v1 (F := Ideal) x1 i = flat x1 (i 0).val := row0 x1 i

theorem flat_lt (h : ∀ i, (x0 i).toNat < 2 ^ 31) (n : ℕ) : (flat x0 n).toNat < 2 ^ 31 := h _

theorem index0 (h : ∀ i, (x0 i).toNat < 2 ^ 31) (y : S8388608x1.Idx) : val_main_v9 (F := Ideal) x0 y = flat x0 (y 0).val := by
  rw [val_main_v9_apply, val_main_v8_apply, val_main_v5_apply, val_main_v4_apply, val_main_c_1_apply, val_main_v3_apply, val_main_call0_v1_apply,
    val_main_call0_v0_apply, val_main_c_0_apply, row0]
  exact clip_word _ _ (flat_lt x0 h _)

theorem index1 (h : ∀ i, (x1 i).toNat < 2 ^ 31) (y : S8388608x1.Idx) : val_main_v19 (F := Ideal) x1 y = flat x1 (y 0).val := by
  rw [val_main_v19_apply, val_main_v18_apply, val_main_v15_apply, val_main_v14_apply, val_main_c_6_apply, val_main_v13_apply, val_main_call1_v1_apply,
    val_main_call1_v0_apply, val_main_c_5_apply, row1]
  exact clip_word _ _ (flat_lt x1 h _)

/-- The word counted where both arguments are: the class they share, or the one past the last. -/
def shared (n : ℕ) : BitVec 32 := if flat x0 n = flat x1 n then flat x1 n else 21#32

theorem index2 (h : ∀ i, (x1 i).toNat < 2 ^ 31) (y : S8388608x1.Idx) : val_main_v31 (F := Ideal) x0 x1 y = shared x0 x1 (y 0).val := by
  have e : ∀ i, val_main_v23 (F := Ideal) x0 x1 i = shared x0 x1 (i 0).val := fun i => by
    rw [val_main_v23_apply, val_main_v22_apply, val_main_call2_v1_apply, val_main_call2_v0_apply, val_main_c_9_apply, row0, row1, WordCmp.cmpi_eq_eq,
      WordCmp.select_decide]
    rfl
  rw [val_main_v31_apply, val_main_v30_apply, val_main_v27_apply, val_main_v26_apply, val_main_c_12_apply, val_main_v25_apply, val_main_call3_v1_apply,
    val_main_call3_v0_apply, val_main_c_11_apply, e]
  refine clip_word _ _ ?_
  unfold shared
  split
  · exact flat_lt x1 h _
  · decide

theorem hit_shared (n c : ℕ) (hc : c < 21) : hit (shared x0 x1 n) c = both (flat x0 n) (flat x1 n) c := by
  unfold shared both
  by_cases e : flat x0 n = flat x1 n
  · rw [if_pos e, e]
    unfold hit
    split <;> rfl
  · rw [if_neg e]
    unfold hit
    rw [if_neg (by
      intro h
      have := congrArg BitVec.toNat h
      rw [BitVec.toNat_ofNat, BitVec.toNat_ofNat] at this
      omega)]
    by_cases h0 : flat x0 n = BitVec.ofNat 32 c
    · rw [if_pos h0, if_neg fun h1 => e (h0.trans h1.symm)]
    · rw [if_neg h0, Nat.zero_mul]

theorem hist0 (h : ∀ i, (x0 i).toNat < 2 ^ 31) (c : Fin 21) :
    val_main_v11 (F := Ideal) x0 (ix1 c) = BitVec.ofNat 32 (∑ n ∈ Finset.range 8388608, hit (flat x0 n) c.val) :=
  scatter_counts _ rfl rfl rfl _ (fun y => by rw [val_main_v2_apply, val_main_c_apply]) _ (flat x0) (index0 x0 h) _
    (fun y => by rw [val_main_v10_apply, val_main_c_3_apply]) c (by omega)

theorem hist1 (h : ∀ i, (x1 i).toNat < 2 ^ 31) (c : Fin 21) :
    val_main_v21 (F := Ideal) x1 (ix1 c) = BitVec.ofNat 32 (∑ n ∈ Finset.range 8388608, hit (flat x1 n) c.val) :=
  scatter_counts _ rfl rfl rfl _ (fun y => by rw [val_main_v12_apply, val_main_c_4_apply]) _ (flat x1) (index1 x1 h) _
    (fun y => by rw [val_main_v20_apply, val_main_c_8_apply]) c (by omega)

theorem hist2 (h : ∀ i, (x1 i).toNat < 2 ^ 31) (c : Fin 22) :
    val_main_v33 (F := Ideal) x0 x1 (ix1 c) = BitVec.ofNat 32 (∑ n ∈ Finset.range 8388608, hit (shared x0 x1 n) c.val) :=
  scatter_counts _ rfl rfl rfl _ (fun y => by rw [val_main_v24_apply, val_main_c_10_apply]) _ (shared x0 x1) (index2 x0 x1 h) _
    (fun y => by rw [val_main_v32_apply, val_main_c_14_apply]) c (by omega)

theorem matches_eq (h : ∀ i, (x1 i).toNat < 2 ^ 31) (c : Fin 21) :
    val_main_v34 (F := Ideal) x0 x1 (ix1 c) = BitVec.ofNat 32 (inBoth x0 x1 c.val) := by
  rw [val_main_v34_apply]
  have e : idx_main_v34 (ix1 c) = ix1 (⟨c.val, by omega⟩ : Fin 22) := funext fun a => match a with | ⟨0, _⟩ => rfl
  rw [e, hist2 x0 x1 h]
  exact congrArg (BitVec.ofNat 32) (Finset.sum_congr rfl fun n _ => hit_shared x0 x1 n c.val c.isLt)

theorem total_eq (h0 : ∀ i, (x0 i).toNat < 2 ^ 31) (h1 : ∀ i, (x1 i).toNat < 2 ^ 31) (c : Fin 21) :
    val_main_v35 (F := Ideal) x0 x1 (ix1 c) = BitVec.ofNat 32 (total x0 x1 c.val) := by
  rw [val_main_v35_apply, hist0 x0 h0, hist1 x1 h1, WordCmp.addi_ofNat, ← Finset.sum_add_distrib]
  rfl

theorem toInt_count (T : ℕ) (hT : T < 2 ^ 30) : (BitVec.ofNat 32 T).toInt = (T : Int) := WordCmp.toInt_ofNat_of_lt (by omega)

theorem toInt_sub_count (T I : ℕ) (hT : T < 2 ^ 30) (hI : I < 2 ^ 30) : (IntOp.subi (BitVec.ofNat 32 T) (BitVec.ofNat 32 I)).toInt = (T : Int) - (I : Int) := by
  show (BitVec.ofNat 32 T - BitVec.ofNat 32 I).toInt = _
  rw [BitVec.toInt_sub, toInt_count T hT, toInt_count I hI]
  apply Int.bmod_eq_of_le <;> omega

/-- The weight: dividing by twice the number of elements is multiplying by the reciprocal. -/
theorem weight_eq (T : EReal) : Ideal.div T (Ideal.ofBits .f32 0x4B800000#32) = T * Ideal.ofBits .f32 0x33800000#32 := by
  have e : Ideal.ofBits .f32 0x4B800000#32 = ((16777216 : ℝ) : EReal) := by
    simp [Ideal.ofBits, Ideal.ieee, -EReal.coe_mul]; norm_num
  have e' : Ideal.ofBits .f32 0x33800000#32 = ((1 / 16777216 : ℝ) : EReal) := by
    simp [Ideal.ofBits, Ideal.ieee, -EReal.coe_mul]; norm_num
  rw [e, e', Ideal.div_coe (by norm_num)]

theorem share_eq (h0 : ∀ i, (x0 i).toNat < 2 ^ 31) (h1 : ∀ i, (x1 i).toNat < 2 ^ 31) (c : Fin 21) :
    val_main_v47 (F := Ideal) x0 x1 (ix1 c) = share (total x0 x1 c.val) (inBoth x0 x1 c.val) := by
  have hT := total_le x0 x1 c.val
  have hI := inBoth_le x0 x1 c.val
  rw [val_main_v47_apply, val_main_v39_apply, val_main_v37_apply, val_main_v38_apply, val_main_cst_apply, val_main_v46_apply, val_main_v42_apply,
    val_main_v40_apply, val_main_v41_apply, val_main_cst_15_apply, val_main_v45_apply, val_main_v43_apply, val_main_v44_apply, val_main_cst_16_apply,
    val_main_v36_apply, total_eq x0 x1 h0 h1, matches_eq x0 x1 h1]
  show Ideal.div (((BitVec.ofNat 32 (total x0 x1 c.val)).toInt : ℝ) : EReal) (Ideal.ofBits .f32 0x4B800000#32)
      * Ideal.div ((((BitVec.ofNat 32 (inBoth x0 x1 c.val)).toInt : ℝ) : EReal) + Ideal.ofBits .f32 0x33D6BF95#32)
          ((((IntOp.subi (BitVec.ofNat 32 (total x0 x1 c.val)) (BitVec.ofNat 32 (inBoth x0 x1 c.val))).toInt : ℝ) : EReal) + Ideal.ofBits .f32 0x33D6BF95#32) = _
  rw [weight_eq, toInt_count _ (by omega), toInt_count _ (by omega), toInt_sub_count _ _ (by omega) (by omega)]
  unfold share
  rw [← EReal.coe_sub]
  push_cast
  rfl

/-- The reference's result, read off its arguments. -/
theorem result_eq (h0 : ∀ i, (x0 i).toNat < 2 ^ 31) (h1 : ∀ i, (x1 i).toNat < 2 ^ 31) (i : S_.Idx) :
    val_main_v48 (F := Ideal) x0 x1 i = score x0 x1 := by
  rw [val_main_v48_apply, val_main_cst_17_apply]
  show Ideal.ofBits .f32 0x00000000#32 + _ = _
  rw [Ideal.ofBits_zero_f32, zero_add]
  refine (Fintype.sum_equiv (⟨fun c => ix1 c, fun j => j 0, fun _ => rfl, fun j => (funext fun a => match a with | ⟨0, _⟩ => rfl)⟩ : Fin 21 ≃ S21.Idx) _ _
    fun c => ?_).symm
  exact (share_eq x0 x1 h0 h1 c).symm

end Cert.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal.Read
public import proofs.«01_k».proof.Proof.Gen.ReferenceIdeal
public import proofs.«01_k».proof.Proof.Value
public import proofs.«01_k».proof.Proof.Ref
public import Idealize.ShloMosaic.Adequacy
public import Idealize.ShloMosaic.Init

@[expose] public section

noncomputable section

namespace Cert.Proof

open Idealize.ShloMosaic Idealize.SL.Sem Cert.Kernel

/-- The precondition's one stated fact. -/
theorem pre_facts : Cert.Pre_nonnegative.Facts := ⟨by decide⟩

/-- What the precondition says of every element. -/
theorem nonnegative [Cert.Pre_nonnegative.Facts] (x y : IVec Cert.Pre_nonnegative.S32x512x512 32)
    (h : Cert.Pre_nonnegative.fn (F := Ideal) x y = fun _ => 1#1) :
    (∀ i, (x i).toNat < 2 ^ 31) ∧ ∀ i, (y i).toNat < 2 ^ 31 := by
  have hi : ∀ i, IntOp.andi (IntOp.cmpi .sge (x i) 0#32) (IntOp.cmpi .sge (y i) 0#32) = 1#1 := fun i => congrFun h i
  have hb : ∀ i, (x i).toNat < 2 ^ 31 ∧ (y i).toNat < 2 ^ 31 := fun i => by
    have e := hi i
    rw [WordCmp.cmpi_sge_zero, WordCmp.cmpi_sge_zero, WordCmp.andi_ofBool, WordCmp.ofBool_eq_one_iff, Bool.and_eq_true, decide_eq_true_eq, decide_eq_true_eq] at e
    exact e
  exact ⟨fun i => (hb i).1, fun i => (hb i).2⟩

theorem frame_r (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun r h => ⟨fun c => (h c).2, sem_eq_zero_of_no_sems (by decide) r.2⟩) (Cert.ReferenceIdeal.Value.run m g)

theorem algebraic [Cert.Pre_nonnegative.Facts] : Cert.algebraic_KernelIdeal_ReferenceIdeal_pre_nonnegative := by
  intro m g m' g' hpre hagree
  refine ⟨fun c _ => Cert.Value.number m c, Cert.Value.run m g, ?_⟩
  refine (θ_run _ _ _).mono (fun r h c => ⟨(h c).1.trans ?_, (h c).2⟩) (Cert.ReferenceIdeal.Value.run m' g')
  obtain ⟨h0, h1⟩ := nonnegative _ _ (hpre c)
  obtain ⟨e0, e1⟩ := hagree c
  rw [Cert.ReferenceIdeal.Read.val_main_v48_eq, e0, e1]
  exact funext fun i => Cert.Ref.result_eq _ _ h0 h1 i

theorem claim : Cert.Claim := ⟨Cert.Kernel.Gen.facts, Cert.KernelIdeal.Gen.facts, Cert.ReferenceIdeal.Gen.facts, pre_facts,
  fun m g _ => Cert.Kernel.Gen.frame m g, fun m g _ => Cert.KernelIdeal.Gen.frame m g, fun m g _ => Cert.KernelIdeal.Gen.frame m g,
  fun m g _ => frame_r m g, fun m g _ => frame_r m g, trivial, @algebraic pre_facts⟩

end Cert.Proof

end
